-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![1, 4096, 8, 128]⟩ ⟨4, ![1, 4096, 32, 128]⟩ 2 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 4096, 8, 128]⟩ ⟨4, ![1, 4096, 32, 128]⟩ 2 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S1x256x1024 : Shape := ⟨3, ![1, 256, 1024]⟩
abbrev S1024x4096 : Shape := ⟨2, ![1024, 4096]⟩
abbrev S1x4096x8x128 : Shape := ⟨4, ![1, 4096, 8, 128]⟩
abbrev S4096x1024 : Shape := ⟨2, ![4096, 1024]⟩
abbrev S_ : Shape := ⟨0, ![]⟩

class Facts : Prop where
  bcast_S_S1x256x1024 : S_.BroadcastsInDim S1x256x1024 (![] : Fin 0 → Fin S1x256x1024.rank)
  reducesTo_S1x256x1024_S_d0_1_2 : S1x256x1024.ReducesTo [0, 1, 2] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S1x4096x8x128 : S_.BroadcastsInDim S1x4096x8x128 (![] : Fin 0 → Fin S1x4096x8x128.rank)
  reducesTo_S1x4096x8x128_S_d0_1_2_3 : S1x4096x8x128.ReducesTo [0, 1, 2, 3] S_

variable [Facts]

def fn {F : FTy → Type} [FloatOps F] (main_arg0 : FVec F S1x256x1024 .f32) (main_arg1 : FVec F S1024x4096 .f32) (main_arg2 : FVec F S1x4096x8x128 .f32) (main_arg3 : FVec F S1x4096x8x128 .f32) (main_arg4 : FVec F S4096x1024 .f32) : IVec S_ 1 :=
  let main_v0 : FVec F S1x256x1024 .f32 := Host.absf main_arg0
  let main_cst : FVec F S_ .f32 := constant S_ .f32 0x7F800000#32
  let main_v1 : FVec F S1x256x1024 .f32 := broadcastInDim S1x256x1024 ![] bcast_S_S1x256x1024 main_cst
  let main_v2 : IVec S1x256x1024 1 := cmpf .olt main_v0 main_v1
  let main_c : IVec S_ 1 := constantI S_ 1 1#1
  let main_v3 : IVec S_ 1 := (fun x v => Host.reduce IntOp.andi x v reducesTo_S1x256x1024_S_d0_1_2 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S1x4096x8x128 .f32 := Host.absf main_arg2
  let main_cst_2 : FVec F S_ .f32 := constant S_ .f32 0x7F800000#32
  let main_v10 : FVec F S1x4096x8x128 .f32 := broadcastInDim S1x4096x8x128 ![] bcast_S_S1x4096x8x128 main_cst_2
  let main_v11 : IVec S1x4096x8x128 1 := cmpf .olt main_v9 main_v10
  let main_c_3 : IVec S_ 1 := constantI S_ 1 1#1
  let main_v12 : IVec S_ 1 := (fun x v => Host.reduce IntOp.andi x v reducesTo_S1x4096x8x128_S_d0_1_2_3 h_S_) main_v11 main_c_3
  let main_v13 : IVec S_ 1 := andi main_v8 main_v12
  main_v13
-- ==== Pre_finite_scores_ReferenceIdeal.lean ====
abbrev S1x256x1024 : Shape := ⟨3, ![1, 256, 1024]⟩
abbrev S1024x4096 : Shape := ⟨2, ![1024, 4096]⟩
abbrev S1x4096x32x128 : Shape := ⟨4, ![1, 4096, 32, 128]⟩
abbrev S4096x1024 : Shape := ⟨2, ![4096, 1024]⟩
abbrev S_ : Shape := ⟨0, ![]⟩

class Facts : Prop where
  bcast_S_S1x256x1024 : S_.BroadcastsInDim S1x256x1024 (![] : Fin 0 → Fin S1x256x1024.rank)
  reducesTo_S1x256x1024_S_d0_1_2 : S1x256x1024.ReducesTo [0, 1, 2] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S1x4096x32x128 : S_.BroadcastsInDim S1x4096x32x128 (![] : Fin 0 → Fin S1x4096x32x128.rank)
  reducesTo_S1x4096x32x128_S_d0_1_2_3 : S1x4096x32x128.ReducesTo [0, 1, 2, 3] S_

variable [Facts]

def fn {F : FTy → Type} [FloatOps F] (main_arg0 : FVec F S1x256x1024 .f32) (main_arg1 : FVec F S1024x4096 .f32) (main_arg2 : FVec F S1x4096x32x128 .f32) (main_arg3 : FVec F S1x4096x32x128 .f32) (main_arg4 : FVec F S4096x1024 .f32) : IVec S_ 1 :=
  let main_v0 : FVec F S1x256x1024 .f32 := Host.absf main_arg0
  let main_cst : FVec F S_ .f32 := constant S_ .f32 0x7F800000#32
  let main_v1 : FVec F S1x256x1024 .f32 := broadcastInDim S1x256x1024 ![] bcast_S_S1x256x1024 main_cst
  let main_v2 : IVec S1x256x1024 1 := cmpf .olt main_v0 main_v1
  let main_c : IVec S_ 1 := constantI S_ 1 1#1
  let main_v3 : IVec S_ 1 := (fun x v => Host.reduce IntOp.andi x v reducesTo_S1x256x1024_S_d0_1_2 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S1x4096x32x128 .f32 := Host.absf main_arg2
  let main_cst_2 : FVec F S_ .f32 := constant S_ .f32 0x7F800000#32
  let main_v10 : FVec F S1x4096x32x128 .f32 := broadcastInDim S1x4096x32x128 ![] bcast_S_S1x4096x32x128 main_cst_2
  let main_v11 : IVec S1x4096x32x128 1 := cmpf .olt main_v9 main_v10
  let main_c_3 : IVec S_ 1 := constantI S_ 1 1#1
  let main_v12 : IVec S_ 1 := (fun x v => Host.reduce IntOp.andi x v reducesTo_S1x4096x32x128_S_d0_1_2_3 h_S_) main_v11 main_c_3
  let main_v13 : IVec S_ 1 := andi main_v8 main_v12
  main_v13
-- ==== Kernel.lean ====
abbrev S1x256x1024 : Shape := ⟨3, ![1, 256, 1024]⟩
abbrev S1024x4096 : Shape := ⟨2, ![1024, 4096]⟩
abbrev S1x4096x8x128 : Shape := ⟨4, ![1, 4096, 8, 128]⟩
abbrev S4096x1024 : Shape := ⟨2, ![4096, 1024]⟩
abbrev S1024x1024 : Shape := ⟨2, ![1024, 1024]⟩
abbrev S4352x1024 : Shape := ⟨2, ![4352, 1024]⟩
abbrev S256x1024 : Shape := ⟨2, ![256, 1024]⟩
abbrev S3x256x256 : Shape := ⟨3, ![3, 256, 256]⟩
abbrev S256x256 : Shape := ⟨2, ![256, 256]⟩
abbrev S8 : Shape := ⟨1, ![8]⟩
abbrev S3 : Shape := ⟨1, ![3]⟩
abbrev S1 : Shape := ⟨1, ![1]⟩
abbrev S_ : Shape := ⟨0, ![]⟩
abbrev S64x1024 : Shape := ⟨2, ![64, 1024]⟩
abbrev S4096x8x128 : Shape := ⟨3, ![4096, 8, 128]⟩
abbrev S1408x1024 : Shape := ⟨2, ![1408, 1024]⟩
abbrev S64x128 : Shape := ⟨2, ![64, 128]⟩
abbrev S128x128 : Shape := ⟨2, ![128, 128]⟩
abbrev S1408x128 : Shape := ⟨2, ![1408, 128]⟩
abbrev S128x1408 : Shape := ⟨2, ![128, 1408]⟩
abbrev S128 : Shape := ⟨1, ![128]⟩
abbrev S128x1 : Shape := ⟨2, ![128, 1]⟩
abbrev S1472x1024 : Shape := ⟨2, ![1472, 1024]⟩
abbrev S1472x128 : Shape := ⟨2, ![1472, 128]⟩
abbrev S64x1472 : Shape := ⟨2, ![64, 1472]⟩
abbrev S64 : Shape := ⟨1, ![64]⟩
abbrev S64x1 : Shape := ⟨2, ![64, 1]⟩
abbrev S256x128 : Shape := ⟨2, ![256, 128]⟩
abbrev S1x256x256 : Shape := ⟨3, ![1, 256, 256]⟩

abbrev nBuf : Space → Nat
  | .hbm => 6
  | .vmem => 10
  | .smem => 0
  | _ => 0

abbrev bufTy : (tb : Table) → Fin (tcTables nBuf tb) → BufTy
  | .hbm, ⟨0, _⟩ => ⟨S1x256x1024, .f32⟩
  | .hbm, ⟨1, _⟩ => ⟨S1024x4096, .f32⟩
  | .hbm, ⟨2, _⟩ => ⟨S1x4096x8x128, .f32⟩
  | .hbm, ⟨3, _⟩ => ⟨S1x4096x8x128, .f32⟩
  | .hbm, ⟨4, _⟩ => ⟨S4096x1024, .f32⟩
  | .hbm, ⟨5, _⟩ => ⟨S1x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1024x1024, .f32⟩
  | .local _ .vmem, ⟨3, _⟩ => ⟨S4352x1024, .f32⟩
  | .local _ .vmem, ⟨4, _⟩ => ⟨S4352x1024, .f32⟩
  | .local _ .vmem, ⟨5, _⟩ => ⟨S1024x1024, .f32⟩
  | .local _ .vmem, ⟨6, _⟩ => ⟨S256x1024, .bf16⟩
  | .local _ .vmem, ⟨7, _⟩ => ⟨S3x256x256, .bf16⟩
  | .local _ .vmem, ⟨8, _⟩ => ⟨S256x256, .bf16⟩
  | .local _ .vmem, ⟨9, _⟩ => ⟨S3x256x256, .bf16⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 1 22 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_off1 (d0 : Dev nD) : Fin 2 → Nat :=
  let c0_i32_0 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v3 : BitVec 32 := Scalar.muli v2 c1024_i32
  ![0, v3.toNat]
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v3 : BitVec 32 := Scalar.muli v2 c1024_i32
  let c0_i32_1155 : BitVec 32 := 0#32
  ![v3.toNat, 0]
def k0_dev1 (d0 : Dev nD) : Nat :=
  let c0_i32_1165 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1156 : BitVec 32 := 1#32
  let v963 : BitVec 32 := Scalar.addi v2 c1_i32_1156
  let c4_i32_1157 : BitVec 32 := 4#32
  let c0_i32_1158 : BitVec 32 := 0#32
  let v964 : BitVec 1 := Scalar.cmpi .eq c4_i32_1157 c0_i32_1158
  let c1_i32_1159 : BitVec 32 := 1#32
  let v965 : BitVec 32 := Scalar.select v964 c1_i32_1159 c4_i32_1157
  let v966 : BitVec 32 := Scalar.remsi v963 v965
  let c0_i32_1161 : BitVec 32 := 0#32
  let v968 : BitVec 1 := Scalar.cmpi .slt v966 c0_i32_1161
  let c0_i32_1162 : BitVec 32 := 0#32
  let v969 : BitVec 1 := Scalar.cmpi .slt v965 c0_i32_1162
  let v970 : BitVec 1 := Scalar.xori v968 v969
  let c0_i32_1160 : BitVec 32 := 0#32
  let v967 : BitVec 1 := Scalar.cmpi .ne v966 c0_i32_1160
  let v971 : BitVec 1 := Scalar.andi v970 v967
  let v972 : BitVec 32 := Scalar.addi v966 v965
  let v973 : BitVec 32 := Scalar.select v971 v972 v966
  let c1_i32_1164 : BitVec 32 := 1#32
  let v974 : BitVec 32 := Scalar.muli v973 c1_i32_1164
  let v975 : BitVec 32 := Scalar.addi c0_i32_1165 v974
  v975.toNat
def k0_dev2 (d0 : Dev nD) : Nat :=
  let c0_i32_1175 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_1166 : BitVec 32 := 2#32
  let v976 : BitVec 32 := Scalar.addi v2 c2_i32_1166
  let c4_i32_1167 : BitVec 32 := 4#32
  let c0_i32_1168 : BitVec 32 := 0#32
  let v977 : BitVec 1 := Scalar.cmpi .eq c4_i32_1167 c0_i32_1168
  let c1_i32_1169 : BitVec 32 := 1#32
  let v978 : BitVec 32 := Scalar.select v977 c1_i32_1169 c4_i32_1167
  let v979 : BitVec 32 := Scalar.remsi v976 v978
  let c0_i32_1171 : BitVec 32 := 0#32
  let v981 : BitVec 1 := Scalar.cmpi .slt v979 c0_i32_1171
  let c0_i32_1172 : BitVec 32 := 0#32
  let v982 : BitVec 1 := Scalar.cmpi .slt v978 c0_i32_1172
  let v983 : BitVec 1 := Scalar.xori v981 v982
  let c0_i32_1170 : BitVec 32 := 0#32
  let v980 : BitVec 1 := Scalar.cmpi .ne v979 c0_i32_1170
  let v984 : BitVec 1 := Scalar.andi v983 v980
  let v985 : BitVec 32 := Scalar.addi v979 v978
  let v986 : BitVec 32 := Scalar.select v984 v985 v979
  let c1_i32_1174 : BitVec 32 := 1#32
  let v987 : BitVec 32 := Scalar.muli v986 c1_i32_1174
  let v988 : BitVec 32 := Scalar.addi c0_i32_1175 v987
  v988.toNat
def k0_dev3 (d0 : Dev nD) : Nat :=
  let c0_i32_1185 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_1176 : BitVec 32 := 3#32
  let v989 : BitVec 32 := Scalar.addi v2 c3_i32_1176
  let c4_i32_1177 : BitVec 32 := 4#32
  let c0_i32_1178 : BitVec 32 := 0#32
  let v990 : BitVec 1 := Scalar.cmpi .eq c4_i32_1177 c0_i32_1178
  let c1_i32_1179 : BitVec 32 := 1#32
  let v991 : BitVec 32 := Scalar.select v990 c1_i32_1179 c4_i32_1177
  let v992 : BitVec 32 := Scalar.remsi v989 v991
  let c0_i32_1181 : BitVec 32 := 0#32
  let v994 : BitVec 1 := Scalar.cmpi .slt v992 c0_i32_1181
  let c0_i32_1182 : BitVec 32 := 0#32
  let v995 : BitVec 1 := Scalar.cmpi .slt v991 c0_i32_1182
  let v996 : BitVec 1 := Scalar.xori v994 v995
  let c0_i32_1180 : BitVec 32 := 0#32
  let v993 : BitVec 1 := Scalar.cmpi .ne v992 c0_i32_1180
  let v997 : BitVec 1 := Scalar.andi v996 v993
  let v998 : BitVec 32 := Scalar.addi v992 v991
  let v999 : BitVec 32 := Scalar.select v997 v998 v992
  let c1_i32_1184 : BitVec 32 := 1#32
  let v1000 : BitVec 32 := Scalar.muli v999 c1_i32_1184
  let v1001 : BitVec 32 := Scalar.addi c0_i32_1185 v1000
  v1001.toNat
def k0_off3 (d0 : Dev nD) (c1_i32_2554 : BitVec 32) : Fin 2 → Nat :=
  let c0_i32_2569 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v2401 : BitVec 32 := Scalar.addi v2 c1_i32_2554
  let c4_i32_2555 : BitVec 32 := 4#32
  let c0_i32_2556 : BitVec 32 := 0#32
  let v2402 : BitVec 1 := Scalar.cmpi .eq c4_i32_2555 c0_i32_2556
  let c1_i32_2557 : BitVec 32 := 1#32
  let v2403 : BitVec 32 := Scalar.select v2402 c1_i32_2557 c4_i32_2555
  let v2404 : BitVec 32 := Scalar.remsi v2401 v2403
  let c0_i32_2559 : BitVec 32 := 0#32
  let v2406 : BitVec 1 := Scalar.cmpi .slt v2404 c0_i32_2559
  let c0_i32_2560 : BitVec 32 := 0#32
  let v2407 : BitVec 1 := Scalar.cmpi .slt v2403 c0_i32_2560
  let v2408 : BitVec 1 := Scalar.xori v2406 v2407
  let c0_i32_2558 : BitVec 32 := 0#32
  let v2405 : BitVec 1 := Scalar.cmpi .ne v2404 c0_i32_2558
  let v2409 : BitVec 1 := Scalar.andi v2408 v2405
  let v2410 : BitVec 32 := Scalar.addi v2404 v2403
  let v2411 : BitVec 32 := Scalar.select v2409 v2410 v2404
  let c256_i32_2561 : BitVec 32 := 256#32
  let v2412 : BitVec 32 := Scalar.muli v2411 c256_i32_2561
  ![0, v2412.toNat]
def k0_dev4 (d0 : Dev nD) : Nat :=
  let c0_i32_2566 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2554 : BitVec 32 := 1#32
  let v2401 : BitVec 32 := Scalar.addi v2 c1_i32_2554
  let c4_i32_2555 : BitVec 32 := 4#32
  let c0_i32_2556 : BitVec 32 := 0#32
  let v2402 : BitVec 1 := Scalar.cmpi .eq c4_i32_2555 c0_i32_2556
  let c1_i32_2557 : BitVec 32 := 1#32
  let v2403 : BitVec 32 := Scalar.select v2402 c1_i32_2557 c4_i32_2555
  let v2404 : BitVec 32 := Scalar.remsi v2401 v2403
  let c0_i32_2559 : BitVec 32 := 0#32
  let v2406 : BitVec 1 := Scalar.cmpi .slt v2404 c0_i32_2559
  let c0_i32_2560 : BitVec 32 := 0#32
  let v2407 : BitVec 1 := Scalar.cmpi .slt v2403 c0_i32_2560
  let v2408 : BitVec 1 := Scalar.xori v2406 v2407
  let c0_i32_2558 : BitVec 32 := 0#32
  let v2405 : BitVec 1 := Scalar.cmpi .ne v2404 c0_i32_2558
  let v2409 : BitVec 1 := Scalar.andi v2408 v2405
  let v2410 : BitVec 32 := Scalar.addi v2404 v2403
  let v2411 : BitVec 32 := Scalar.select v2409 v2410 v2404
  let c1_i32_2565 : BitVec 32 := 1#32
  let v2413 : BitVec 32 := Scalar.muli v2411 c1_i32_2565
  let v2414 : BitVec 32 := Scalar.addi c0_i32_2566 v2413
  v2414.toNat
def k0_dev5 (d0 : Dev nD) : Nat :=
  let c0_i32_2582 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_2570 : BitVec 32 := 2#32
  let v2422 : BitVec 32 := Scalar.addi v2 c2_i32_2570
  let c4_i32_2571 : BitVec 32 := 4#32
  let c0_i32_2572 : BitVec 32 := 0#32
  let v2423 : BitVec 1 := Scalar.cmpi .eq c4_i32_2571 c0_i32_2572
  let c1_i32_2573 : BitVec 32 := 1#32
  let v2424 : BitVec 32 := Scalar.select v2423 c1_i32_2573 c4_i32_2571
  let v2425 : BitVec 32 := Scalar.remsi v2422 v2424
  let c0_i32_2575 : BitVec 32 := 0#32
  let v2427 : BitVec 1 := Scalar.cmpi .slt v2425 c0_i32_2575
  let c0_i32_2576 : BitVec 32 := 0#32
  let v2428 : BitVec 1 := Scalar.cmpi .slt v2424 c0_i32_2576
  let v2429 : BitVec 1 := Scalar.xori v2427 v2428
  let c0_i32_2574 : BitVec 32 := 0#32
  let v2426 : BitVec 1 := Scalar.cmpi .ne v2425 c0_i32_2574
  let v2430 : BitVec 1 := Scalar.andi v2429 v2426
  let v2431 : BitVec 32 := Scalar.addi v2425 v2424
  let v2432 : BitVec 32 := Scalar.select v2430 v2431 v2425
  let c1_i32_2581 : BitVec 32 := 1#32
  let v2434 : BitVec 32 := Scalar.muli v2432 c1_i32_2581
  let v2435 : BitVec 32 := Scalar.addi c0_i32_2582 v2434
  v2435.toNat
def k0_dev6 (d0 : Dev nD) : Nat :=
  let c0_i32_2598 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_2586 : BitVec 32 := 3#32
  let v2443 : BitVec 32 := Scalar.addi v2 c3_i32_2586
  let c4_i32_2587 : BitVec 32 := 4#32
  let c0_i32_2588 : BitVec 32 := 0#32
  let v2444 : BitVec 1 := Scalar.cmpi .eq c4_i32_2587 c0_i32_2588
  let c1_i32_2589 : BitVec 32 := 1#32
  let v2445 : BitVec 32 := Scalar.select v2444 c1_i32_2589 c4_i32_2587
  let v2446 : BitVec 32 := Scalar.remsi v2443 v2445
  let c0_i32_2591 : BitVec 32 := 0#32
  let v2448 : BitVec 1 := Scalar.cmpi .slt v2446 c0_i32_2591
  let c0_i32_2592 : BitVec 32 := 0#32
  let v2449 : BitVec 1 := Scalar.cmpi .slt v2445 c0_i32_2592
  let v2450 : BitVec 1 := Scalar.xori v2448 v2449
  let c0_i32_2590 : BitVec 32 := 0#32
  let v2447 : BitVec 1 := Scalar.cmpi .ne v2446 c0_i32_2590
  let v2451 : BitVec 1 := Scalar.andi v2450 v2447
  let v2452 : BitVec 32 := Scalar.addi v2446 v2445
  let v2453 : BitVec 32 := Scalar.select v2451 v2452 v2446
  let c1_i32_2597 : BitVec 32 := 1#32
  let v2455 : BitVec 32 := Scalar.muli v2453 c1_i32_2597
  let v2456 : BitVec 32 := Scalar.addi c0_i32_2598 v2455
  v2456.toNat
def k0_off4 (d0 : Dev nD) : Fin 2 → Nat :=
  let c0_2648 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_2647 : BitVec 32 := 256#32
  let v2500 : BitVec 32 := Scalar.muli v2 c256_i32_2647
  let v2501 : Index := Scalar.indexCast v2500
  ![0, v2501.toNat]
def k0_dev7 (d0 : Dev nD) : Nat :=
  let c0_i32_2669 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2658 : BitVec 32 := 1#32
  let v2520 : BitVec 32 := Scalar.addi v2 c1_i32_2658
  let c4_i32_2659 : BitVec 32 := 4#32
  let c0_i32_2660 : BitVec 32 := 0#32
  let v2521 : BitVec 1 := Scalar.cmpi .eq c4_i32_2659 c0_i32_2660
  let c1_i32_2661 : BitVec 32 := 1#32
  let v2522 : BitVec 32 := Scalar.select v2521 c1_i32_2661 c4_i32_2659
  let v2523 : BitVec 32 := Scalar.remsi v2520 v2522
  let c0_i32_2663 : BitVec 32 := 0#32
  let v2525 : BitVec 1 := Scalar.cmpi .slt v2523 c0_i32_2663
  let c0_i32_2664 : BitVec 32 := 0#32
  let v2526 : BitVec 1 := Scalar.cmpi .slt v2522 c0_i32_2664
  let v2527 : BitVec 1 := Scalar.xori v2525 v2526
  let c0_i32_2662 : BitVec 32 := 0#32
  let v2524 : BitVec 1 := Scalar.cmpi .ne v2523 c0_i32_2662
  let v2528 : BitVec 1 := Scalar.andi v2527 v2524
  let v2529 : BitVec 32 := Scalar.addi v2523 v2522
  let v2530 : BitVec 32 := Scalar.select v2528 v2529 v2523
  let c1_i32_2668 : BitVec 32 := 1#32
  let v2531 : BitVec 32 := Scalar.muli v2530 c1_i32_2668
  let v2532 : BitVec 32 := Scalar.addi c0_i32_2669 v2531
  v2532.toNat
def k0_dev8 (d0 : Dev nD) : Nat :=
  let c0_i32_2683 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_2672 : BitVec 32 := 2#32
  let v2539 : BitVec 32 := Scalar.addi v2 c2_i32_2672
  let c4_i32_2673 : BitVec 32 := 4#32
  let c0_i32_2674 : BitVec 32 := 0#32
  let v2540 : BitVec 1 := Scalar.cmpi .eq c4_i32_2673 c0_i32_2674
  let c1_i32_2675 : BitVec 32 := 1#32
  let v2541 : BitVec 32 := Scalar.select v2540 c1_i32_2675 c4_i32_2673
  let v2542 : BitVec 32 := Scalar.remsi v2539 v2541
  let c0_i32_2677 : BitVec 32 := 0#32
  let v2544 : BitVec 1 := Scalar.cmpi .slt v2542 c0_i32_2677
  let c0_i32_2678 : BitVec 32 := 0#32
  let v2545 : BitVec 1 := Scalar.cmpi .slt v2541 c0_i32_2678
  let v2546 : BitVec 1 := Scalar.xori v2544 v2545
  let c0_i32_2676 : BitVec 32 := 0#32
  let v2543 : BitVec 1 := Scalar.cmpi .ne v2542 c0_i32_2676
  let v2547 : BitVec 1 := Scalar.andi v2546 v2543
  let v2548 : BitVec 32 := Scalar.addi v2542 v2541
  let v2549 : BitVec 32 := Scalar.select v2547 v2548 v2542
  let c1_i32_2682 : BitVec 32 := 1#32
  let v2550 : BitVec 32 := Scalar.muli v2549 c1_i32_2682
  let v2551 : BitVec 32 := Scalar.addi c0_i32_2683 v2550
  v2551.toNat
def k0_dev9 (d0 : Dev nD) : Nat :=
  let c0_i32_2697 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_2686 : BitVec 32 := 3#32
  let v2558 : BitVec 32 := Scalar.addi v2 c3_i32_2686
  let c4_i32_2687 : BitVec 32 := 4#32
  let c0_i32_2688 : BitVec 32 := 0#32
  let v2559 : BitVec 1 := Scalar.cmpi .eq c4_i32_2687 c0_i32_2688
  let c1_i32_2689 : BitVec 32 := 1#32
  let v2560 : BitVec 32 := Scalar.select v2559 c1_i32_2689 c4_i32_2687
  let v2561 : BitVec 32 := Scalar.remsi v2558 v2560
  let c0_i32_2691 : BitVec 32 := 0#32
  let v2563 : BitVec 1 := Scalar.cmpi .slt v2561 c0_i32_2691
  let c0_i32_2692 : BitVec 32 := 0#32
  let v2564 : BitVec 1 := Scalar.cmpi .slt v2560 c0_i32_2692
  let v2565 : BitVec 1 := Scalar.xori v2563 v2564
  let c0_i32_2690 : BitVec 32 := 0#32
  let v2562 : BitVec 1 := Scalar.cmpi .ne v2561 c0_i32_2690
  let v2566 : BitVec 1 := Scalar.andi v2565 v2562
  let v2567 : BitVec 32 := Scalar.addi v2561 v2560
  let v2568 : BitVec 32 := Scalar.select v2566 v2567 v2561
  let c1_i32_2696 : BitVec 32 := 1#32
  let v2569 : BitVec 32 := Scalar.muli v2568 c1_i32_2696
  let v2570 : BitVec 32 := Scalar.addi c0_i32_2697 v2569
  v2570.toNat
def k0_off5 (d0 : Dev nD) : Fin 3 → Nat :=
  let c0_2701 : Index := 0#32
  let c0_2702 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_2700 : BitVec 32 := 256#32
  let v2577 : BitVec 32 := Scalar.muli v2 c256_i32_2700
  let v2578 : Index := Scalar.indexCast v2577
  ![0, 0, v2578.toNat]
def k0_off6 (d0 : Dev nD) (c1_i32_2716 : BitVec 32) : Fin 3 → Nat :=
  let c0_2727 : Index := 0#32
  let c0_2728 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v2592 : BitVec 32 := Scalar.subi v2 c1_i32_2716
  let c4_i32_2717 : BitVec 32 := 4#32
  let c0_i32_2718 : BitVec 32 := 0#32
  let v2593 : BitVec 1 := Scalar.cmpi .eq c4_i32_2717 c0_i32_2718
  let c1_i32_2719 : BitVec 32 := 1#32
  let v2594 : BitVec 32 := Scalar.select v2593 c1_i32_2719 c4_i32_2717
  let v2595 : BitVec 32 := Scalar.remsi v2592 v2594
  let c0_i32_2721 : BitVec 32 := 0#32
  let v2597 : BitVec 1 := Scalar.cmpi .slt v2595 c0_i32_2721
  let c0_i32_2722 : BitVec 32 := 0#32
  let v2598 : BitVec 1 := Scalar.cmpi .slt v2594 c0_i32_2722
  let v2599 : BitVec 1 := Scalar.xori v2597 v2598
  let c0_i32_2720 : BitVec 32 := 0#32
  let v2596 : BitVec 1 := Scalar.cmpi .ne v2595 c0_i32_2720
  let v2600 : BitVec 1 := Scalar.andi v2599 v2596
  let v2601 : BitVec 32 := Scalar.addi v2595 v2594
  let v2602 : BitVec 32 := Scalar.select v2600 v2601 v2595
  let c256_i32_2726 : BitVec 32 := 256#32
  let v2606 : BitVec 32 := Scalar.muli v2602 c256_i32_2726
  let v2607 : Index := Scalar.indexCast v2606
  ![0, 0, v2607.toNat]
abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S1x256x1024 : Shape := ⟨3, ![1, 256, 1024]⟩
abbrev S1024x4096 : Shape := ⟨2, ![1024, 4096]⟩
abbrev S1x4096x32x128 : Shape := ⟨4, ![1, 4096, 32, 128]⟩
abbrev S4096x1024 : Shape := ⟨2, ![4096, 1024]⟩
abbrev S1x256x4096 : Shape := ⟨3, ![1, 256, 4096]⟩
abbrev S1x256x32x128 : Shape := ⟨4, ![1, 256, 32, 128]⟩
abbrev S256 : Shape := ⟨1, ![256]⟩
abbrev S_ : Shape := ⟨0, ![]⟩
abbrev S256x1 : Shape := ⟨2, ![256, 1]⟩
abbrev S4096 : Shape := ⟨1, ![4096]⟩
abbrev S1x4096 : Shape := ⟨2, ![1, 4096]⟩
abbrev S256x4096 : Shape := ⟨2, ![256, 4096]⟩
abbrev S1x32x256x4096 : Shape := ⟨4, ![1, 32, 256, 4096]⟩
abbrev S1x1x256x4096 : Shape := ⟨4, ![1, 1, 256, 4096]⟩
abbrev S1x32x256 : Shape := ⟨3, ![1, 32, 256]⟩
abbrev S1x32x256x1 : Shape := ⟨4, ![1, 32, 256, 1]⟩
abbrev S1x1x256x1 : Shape := ⟨4, ![1, 1, 256, 1]⟩
abbrev S1x32x128x256 : Shape := ⟨4, ![1, 32, 128, 256]⟩

abbrev nBuf : Space → Nat
  | .hbm => 123
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S1024x4096, .f32⟩
  | .hbm, ⟨2, _⟩ => ⟨S1x4096x32x128, .f32⟩
  | .hbm, ⟨3, _⟩ => ⟨S1x4096x32x128, .f32⟩
  | .hbm, ⟨4, _⟩ => ⟨S4096x1024, .f32⟩
  | .hbm, ⟨5, _⟩ => ⟨S1x256x4096, .f32⟩
  | .hbm, ⟨6, _⟩ => ⟨S1x256x32x128, .f32⟩
  | .hbm, ⟨7, _⟩ => ⟨S256, .i32⟩
  | .hbm, ⟨8, _⟩ => ⟨S_, .i32⟩
  | .hbm, ⟨9, _⟩ => ⟨S_, .i32⟩
  | .hbm, ⟨10, _⟩ => ⟨S256, .i32⟩
  | .hbm, ⟨11, _⟩ => ⟨S256, .i32⟩
  | .hbm, ⟨12, _⟩ => ⟨S256, .i32⟩
  | .hbm, ⟨13, _⟩ => ⟨S_, .i32⟩
  | .hbm, ⟨14, _⟩ => ⟨S256, .i32⟩
  | .hbm, ⟨15, _⟩ => ⟨S256, .i1⟩
  | .hbm, ⟨16, _⟩ => ⟨S256, .i32⟩
  | .hbm, ⟨17, _⟩ => ⟨S256, .i32⟩
  | .hbm, ⟨18, _⟩ => ⟨S_, .i32⟩
  | .hbm, ⟨19, _⟩ => ⟨S256, .i32⟩
  | .hbm, ⟨20, _⟩ => ⟨S256, .i1⟩
  | .hbm, ⟨21, _⟩ => ⟨S256, .i1⟩
  | .hbm, ⟨22, _⟩ => ⟨S_, .i32⟩
  | .hbm, ⟨23, _⟩ => ⟨S256, .i32⟩
  | .hbm, ⟨24, _⟩ => ⟨S256, .i32⟩
  | .hbm, ⟨25, _⟩ => ⟨S256, .i32⟩
  | .hbm, ⟨26, _⟩ => ⟨S256x1, .i32⟩
  | .hbm, ⟨27, _⟩ => ⟨S4096, .i32⟩
  | .hbm, ⟨28, _⟩ => ⟨S_, .i32⟩
  | .hbm, ⟨29, _⟩ => ⟨S_, .i32⟩
  | .hbm, ⟨30, _⟩ => ⟨S4096, .i32⟩
  | .hbm, ⟨31, _⟩ => ⟨S4096, .i32⟩
  | .hbm, ⟨32, _⟩ => ⟨S4096, .i32⟩
  | .hbm, ⟨33, _⟩ => ⟨S_, .i32⟩
  | .hbm, ⟨34, _⟩ => ⟨S4096, .i32⟩
  | .hbm, ⟨35, _⟩ => ⟨S4096, .i1⟩
  | .hbm, ⟨36, _⟩ => ⟨S4096, .i32⟩
  | .hbm, ⟨37, _⟩ => ⟨S4096, .i32⟩
  | .hbm, ⟨38, _⟩ => ⟨S_, .i32⟩
  | .hbm, ⟨39, _⟩ => ⟨S4096, .i32⟩
  | .hbm, ⟨40, _⟩ => ⟨S4096, .i1⟩
  | .hbm, ⟨41, _⟩ => ⟨S4096, .i1⟩
  | .hbm, ⟨42, _⟩ => ⟨S_, .i32⟩
  | .hbm, ⟨43, _⟩ => ⟨S4096, .i32⟩
  | .hbm, ⟨44, _⟩ => ⟨S4096, .i32⟩
  | .hbm, ⟨45, _⟩ => ⟨S4096, .i32⟩
  | .hbm, ⟨46, _⟩ => ⟨S1x4096, .i32⟩
  | .hbm, ⟨47, _⟩ => ⟨S256x4096, .i32⟩
  | .hbm, ⟨48, _⟩ => ⟨S256x4096, .i32⟩
  | .hbm, ⟨49, _⟩ => ⟨S256x4096, .i1⟩
  | .hbm, ⟨50, _⟩ => ⟨S_, .i32⟩
  | .hbm, ⟨51, _⟩ => ⟨S1x4096, .i32⟩
  | .hbm, ⟨52, _⟩ => ⟨S1x4096, .i1⟩
  | .hbm, ⟨53, _⟩ => ⟨S256x4096, .i1⟩
  | .hbm, ⟨54, _⟩ => ⟨S256x4096, .i1⟩
  | .hbm, ⟨55, _⟩ => ⟨S256x4096, .i32⟩
  | .hbm, ⟨56, _⟩ => ⟨S256x4096, .i32⟩
  | .hbm, ⟨57, _⟩ => ⟨S256x4096, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S256x4096, .i32⟩
  | .hbm, ⟨65, _⟩ => ⟨S256x4096, .i32⟩
  | .hbm, ⟨66, _⟩ => ⟨S_, .i32⟩
  | .hbm, ⟨67, _⟩ => ⟨S256x4096, .i32⟩
  | .hbm, ⟨68, _⟩ => ⟨S256x4096, .i1⟩
  | .hbm, ⟨69, _⟩ => ⟨S_, .i32⟩
  | .hbm, ⟨70, _⟩ => ⟨S256x4096, .i32⟩
  | .hbm, ⟨71, _⟩ => ⟨S256x4096, .i1⟩
  | .hbm, ⟨72, _⟩ => ⟨S_, .i32⟩
  | .hbm, ⟨73, _⟩ => ⟨S_, .i1⟩
  | .hbm, ⟨74, _⟩ => ⟨S256x4096, .i1⟩
  | .hbm, ⟨75, _⟩ => ⟨S256x4096, .i1⟩
  | .hbm, ⟨76, _⟩ => ⟨S256x4096, .i1⟩
  | .hbm, ⟨77, _⟩ => ⟨S256x4096, .i32⟩
  | .hbm, ⟨78, _⟩ => ⟨S256x4096, .i32⟩
  | .hbm, ⟨79, _⟩ => ⟨S256x4096, .i32⟩
  | .hbm, ⟨80, _⟩ => ⟨S_, .i32⟩
  | .hbm, ⟨81, _⟩ => ⟨S256x4096, .i32⟩
  | .hbm, ⟨82, _⟩ => ⟨S256x4096, .i1⟩
  | .hbm, ⟨83, _⟩ => ⟨S256x4096, .i1⟩
  | .hbm, ⟨84, _⟩ => ⟨S1x32x256x4096, .f32⟩
  | .hbm, ⟨85, _⟩ => ⟨S_, .f32⟩
  | .hbm, ⟨86, _⟩ => ⟨S1x32x256x4096, .f32⟩
  | .hbm, ⟨87, _⟩ => ⟨S1x32x256x4096, .f32⟩
  | .hbm, ⟨88, _⟩ => ⟨S1x1x256x4096, .i1⟩
  | .hbm, ⟨89, _⟩ => ⟨S_, .f32⟩
  | .hbm, ⟨90, _⟩ => ⟨S_, .f32⟩
  | .hbm, ⟨91, _⟩ => ⟨S1x32x256x4096, .i1⟩
  | .hbm, ⟨92, _⟩ => ⟨S1x32x256x4096, .f32⟩
  | .hbm, ⟨93, _⟩ => ⟨S1x32x256x4096, .f32⟩
  | .hbm, ⟨94, _⟩ => ⟨S_, .f32⟩
  | .hbm, ⟨95, _⟩ => ⟨S1x32x256, .f32⟩
  | .hbm, ⟨96, _⟩ => ⟨S1x32x256x1, .f32⟩
  | .hbm, ⟨97, _⟩ => ⟨S1x32x256x4096, .f32⟩
  | .hbm, ⟨98, _⟩ => ⟨S1x32x256x4096, .f32⟩
  | .hbm, ⟨99, _⟩ => ⟨S1x32x256x4096, .f32⟩
  | .hbm, ⟨100, _⟩ => ⟨S_, .i1⟩
  | .hbm, ⟨101, _⟩ => ⟨S256, .i1⟩
  | .hbm, ⟨102, _⟩ => ⟨S1x1x256x1, .i1⟩
  | .hbm, ⟨103, _⟩ => ⟨S_, .f32⟩
  | .hbm, ⟨104, _⟩ => ⟨S1x32x256, .f32⟩
  | .hbm, ⟨105, _⟩ => ⟨S1x32x256x1, .f32⟩
  | .hbm, ⟨106, _⟩ => ⟨S_, .f32⟩
  | .hbm, ⟨107, _⟩ => ⟨S_, .f32⟩
  | .hbm, ⟨108, _⟩ => ⟨S1x32x256x1, .i1⟩
  | .hbm, ⟨109, _⟩ => ⟨S1x32x256x1, .f32⟩
  | .hbm, ⟨110, _⟩ => ⟨S1x32x256x1, .f32⟩
  | .hbm, ⟨111, _⟩ => ⟨S1x32x256x4096, .f32⟩
  | .hbm, ⟨112, _⟩ => ⟨S1x32x256x4096, .f32⟩
  | .hbm, ⟨113, _⟩ => ⟨S1x1x256x1, .i1⟩
  | .hbm, ⟨114, _⟩ => ⟨S_, .f32⟩
  | .hbm, ⟨115, _⟩ => ⟨S_, .f32⟩
  | .hbm, ⟨116, _⟩ => ⟨S1x32x256x4096, .i1⟩
  | .hbm, ⟨117, _⟩ => ⟨S1x32x256x4096, .f32⟩
  | .hbm, ⟨118, _⟩ => ⟨S1x32x256x4096, .f32⟩
  | .hbm, ⟨119, _⟩ => ⟨S1x32x128x256, .f32⟩
  | .hbm, ⟨120, _⟩ => ⟨S1x256x32x128, .f32⟩
  | .hbm, ⟨121, _⟩ => ⟨S1x256x4096, .f32⟩
  | .hbm, ⟨122, _⟩ => ⟨S1x256x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_c_2 : Ref sig .tc := ⟨.hbm, 58, rfl⟩
abbrev main_call2_v0 : Ref sig .tc := ⟨.hbm, 59, rfl⟩
abbrev main_call2_c : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_c_1 : Ref sig .tc := ⟨.hbm, 66, rfl⟩
abbrev main_call2_v5 : Ref sig .tc := ⟨.hbm, 67, rfl⟩
abbrev main_call2_v6 : Ref sig .tc := ⟨.hbm, 68, rfl⟩
abbrev main_call2_c_2 : Ref sig .tc := ⟨.hbm, 69, rfl⟩
abbrev main_call2_v7 : Ref sig .tc := ⟨.hbm, 70, rfl⟩
abbrev main_call2_v8 : Ref sig .tc := ⟨.hbm, 71, rfl⟩
abbrev main_call2_c_3 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_v18 : Ref sig .tc := ⟨.hbm, 79, rfl⟩
abbrev main_c_3 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_cst : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_cst_4 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_v26 : Ref sig .tc := ⟨.hbm, 93, rfl⟩
abbrev main_cst_5 : Ref sig .tc := ⟨.hbm, 94, rfl⟩
abbrev main_v27 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_c_6 : Ref sig .tc := ⟨.hbm, 100, rfl⟩
abbrev main_v32 : Ref sig .tc := ⟨.hbm, 101, rfl⟩
abbrev main_v33 : Ref sig .tc := ⟨.hbm, 102, rfl⟩
abbrev main_cst_7 : Ref sig .tc := ⟨.hbm, 103, rfl⟩
abbrev main_v34 : Ref sig .tc := ⟨.hbm, 104, rfl⟩
abbrev main_v35 : Ref sig .tc := ⟨.hbm, 105, rfl⟩
abbrev main_cst_8 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_v36 : Ref sig .tc := ⟨.hbm, 110, rfl⟩
abbrev main_v37 : Ref sig .tc := ⟨.hbm, 111, rfl⟩
abbrev main_v38 : Ref sig .tc := ⟨.hbm, 112, rfl⟩
abbrev main_v39 : Ref sig .tc := ⟨.hbm, 113, rfl⟩
abbrev main_cst_9 : Ref sig .tc := ⟨.hbm, 114, rfl⟩
abbrev main_call5_v0 : Ref sig .tc := ⟨.hbm, 115, rfl⟩
abbrev main_call5_v1 : Ref sig .tc := ⟨.hbm, 116, rfl⟩
abbrev main_call5_v2 : Ref sig .tc := ⟨.hbm, 117, rfl⟩
abbrev main_v40 : Ref sig .tc := ⟨.hbm, 118, rfl⟩
abbrev main_v41 : Ref sig .tc := ⟨.hbm, 119, rfl⟩
abbrev main_v42 : Ref sig .tc := ⟨.hbm, 120, rfl⟩
abbrev main_v43 : Ref sig .tc := ⟨.hbm, 121, rfl⟩
abbrev main_v44 : Ref sig .tc := ⟨.hbm, 122, rfl⟩

abbrev nD : Nat := 1
abbrev τ : Topo := Topo.v7x

variable {F : FTy → Type} [FloatOps F]
-- ==== Proof.Same.lean ====
/-
  The program before and after idealization: no operation is rewritten, so the two are one program, and what is proved
  of the one is proved of the other.
-/
module

public import proofs.«01_k».proof.Defs
public import proofs.«01_k».proof.Proof.Gen.Kernel
public import proofs.«01_k».proof.Proof.Gen.KernelIdeal

@[expose] public section

set_option maxRecDepth 100000
set_option maxHeartbeats 1000000

noncomputable section

namespace Cert.Same

open Idealize.ShloMosaic

variable {F : FTy → Type} [FloatOps F]

instance : Cert.Kernel.Facts := Cert.Kernel.Gen.facts
instance : Cert.KernelIdeal.Facts := Cert.KernelIdeal.Gen.facts

/-- The two kernel bodies are the same. -/
theorem body_eq : Cert.Kernel.defs₀ (F := F) = Cert.KernelIdeal.defs₀ (F := F) := by
  unfold Cert.Kernel.defs₀ Cert.KernelIdeal.defs₀
  refine congrArg (Defs.onTc (nD := 4)) ?_
  funext l s
  match l, s with
  | 0, (t, s) => rfl

/-- The two body tables are the same. -/
theorem defs_eq : Cert.Kernel.defs (F := F) = Cert.KernelIdeal.defs (F := F) := by
  unfold Cert.Kernel.defs
  rw [body_eq]
  rfl

/-- The two main programs are the same. -/
theorem main_eq : Cert.Kernel.main (F := F) = Cert.KernelIdeal.main (F := F) := rfl

end Cert.Same
-- ==== Proof.Base.lean ====
module

public import proofs.«01_k».proof.KernelIdeal
public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.P

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The duties of one cell in one round: a barrier cell has three, every other cell one. -/
abbrev UB : Type := URounds (GSem nD τ sig) (Fin 3)
/-- The user algebra: the pipeline's rounds, the exchange's rounds, and the counters of the local transfers. -/
abbrev UU : Type := UR sig nD τ × (UB × Counters)

end Cert.KernelIdeal.P
-- ==== Proof.Vals.lean ====
/-
  What each device's buffers hold, as functions of the launch memory `m`: the gathered key and value rows, the
  partial product, the chunk reduced, the result.
-/
module

public import proofs.«01_k».proof.Proof.Base

@[expose] public section

set_option maxRecDepth 16384

noncomputable section

namespace Cert.KernelIdeal.P

open Cert.KernelIdeal Cert.KernelIdeal.Gen
open Idealize.ShloMosaic
open Idealize.ShloMosaic.TcCoe

variable {F : FTy → Type} [FloatOps F]

/-- The index `(a, b)` of a matrix. -/
abbrev ix2 {n k : ℕ} (a : Fin n) (b : Fin k) : (⟨2, ![n, k]⟩ : Shape).Idx := Fin.cons a (Fin.cons b finZeroElim)

/-- The key array of one device as a matrix of 4096 rows. -/
abbrev kM : Memref sig .tc .hbm S4096x1024 .f32 :=
  (((Memref.whole main_arg2).slice (Rect.unit (s := S1x4096x8x128) ![0, 0, 0, 0] S1x4096x8x128.size inb_S1x4096x8x128_S1x4096x8x128_0_0_0_0) (fun _ => rfl)).squeeze S4096x8x128 squeezes_S1x4096x8x128_S4096x8x128).reshape S4096x1024 reshapes_S4096x8x128_S4096x1024.1 reshapes_S4096x8x128_S4096x1024.2 ((View.contiguous_reshape _ _).mpr ((Memref.isWhole_whole main_arg2).contiguous.slice _ leadingf32_S1x4096x8x128_S1x4096x8x128_0_0_0_0))
/-- The value array of one device as a matrix of 4096 rows. -/
abbrev vM : Memref sig .tc .hbm S4096x1024 .f32 :=
  (((Memref.whole main_arg3).slice (Rect.unit (s := S1x4096x8x128) ![0, 0, 0, 0] S1x4096x8x128.size inb_S1x4096x8x128_S1x4096x8x128_0_0_0_0) (fun _ => rfl)).squeeze S4096x8x128 squeezes_S1x4096x8x128_S4096x8x128).reshape S4096x1024 reshapes_S4096x8x128_S4096x1024.1 reshapes_S4096x8x128_S4096x1024.2 ((View.contiguous_reshape _ _).mpr ((Memref.isWhole_whole main_arg3).contiguous.slice _ leadingf32_S1x4096x8x128_S1x4096x8x128_0_0_0_0))

/-- The block of the key array that block `b` of the gathered buffer holds: 22 blocks of group 0, 23 of group 1, 23 of group 2. -/
def srcBlk (b : ℕ) : ℕ :=
  if b < 22 then 3 * b
  else if b < 45 then (if b - 22 < 2 then b - 22 else 3 * (b - 22) - 4)
  else (if b - 45 < 3 then b - 45 else 3 * (b - 45) - 5)
theorem srcBlk_lt : ∀ b < 68, srcBlk b < 64 := by decide
/-- The row of the key array that row `r` of the gathered buffer holds. -/
def srcRow (r : Fin 4352) : Fin 4096 :=
  ⟨64 * srcBlk (r.val / 64) + r.val % 64, by have h := srcBlk_lt (r.val / 64) (by omega); omega⟩

/-- All the gathered rows of an array of 4096 rows. -/
def gather {α : Type} (f : S4096x1024.Idx → α) : S4352x1024.Idx → α := fun i => f (ix2 (srcRow (i 0)) (i 1))
/-- The rows of group 0, of group 1, of group 2. -/
def grp0 {α : Type} (f : S4352x1024.Idx → α) : S1408x1024.Idx → α := fun i => f (ix2 (⟨(i 0).val, by have := (i 0).isLt; simp at this; omega⟩ : Fin 4352) (i 1))
def grp1 {α : Type} (f : S4352x1024.Idx → α) : S1472x1024.Idx → α := fun i => f (ix2 (⟨1408 + (i 0).val, by have := (i 0).isLt; simp at this; omega⟩ : Fin 4352) (i 1))
def grp2 {α : Type} (f : S4352x1024.Idx → α) : S1472x1024.Idx → α := fun i => f (ix2 (⟨2880 + (i 0).val, by have := (i 0).isLt; simp at this; omega⟩ : Fin 4352) (i 1))

/-- The partial product of one device, rounded to bf16, from its queries, its gathered keys and values (by group) and its block of `Wo`. -/
def accOf (q : FVec F S256x1024 .f32) (k0 v0 : Vec F S1408x1024 .f32) (k1 v1 k2 v2 : Vec F S1472x1024 .f32) (wo : Vec F S1024x1024 .f32) : Vec F S256x1024 .bf16 :=
  k0_pay40 (k0_pay8 v0 (k0_pay7 q k0)) (k0_pay9 q k0 v0) (k0_pay10 q k0 v0) (k0_pay12 v0 (k0_pay11 q k0) (Scalar.ofBits .f32 0x3DB504F3#32))
    (k0_pay13 q k0 v0) (k0_pay16 (k0_pay14 q k0) (k0_pay15 v0))
    (k0_pay20 v1 (k0_pay19 q k1)) (k0_pay21 q k1 v1) (k0_pay22 q k1 v1) (k0_pay24 v1 (k0_pay23 q k1) (Scalar.ofBits .f32 0x3DB504F3#32)) (k0_pay25 q k1 v1) (k0_pay26 q k1 v1)
    (k0_pay30 v2 (k0_pay29 q k2)) (k0_pay31 q k2 v2) (k0_pay32 q k2 v2) (k0_pay35 v2 (k0_pay33 q k2) (k0_pay34 q k2)) (k0_pay36 q k2 v2) (k0_pay37 q k2 v2)
    (k0_pay38 (k0_pay5 k0 v0 (k0_pay3 q) (k0_pay4 q)) (k0_pay17 q k1 v1) (k0_pay27 q k2 v2))
    (k0_pay39 (k0_pay6 q k0 v0) (k0_pay18 q k1 v1) (k0_pay28 q k2 v2)) wo

variable (m : (ℓ : Loc nD τ sig) → Buf (Elt F) ℓ)

/-- The staged input of device `c`. -/
def xstg (c : Dev nD) : (cc0_stg0_0 : Ref sig .tc).ty.Contents (Elt F) :=
  (win0_0.blk (0 : Fin 1)).view.read (Elt F) (m ((c : Thread nD τ).loc main_arg0))

abbrev wqSrc (c : Dev nD) : Memref sig .tc .hbm S1024x1024 .f32 :=
  (Memref.whole main_arg1).slice (Rect.unit (s := S1024x4096) (k0_off1 c) S1024x1024.size (k0_off1_inb c)) (fun _ => rfl)
abbrev woSrc (c : Dev nD) : Memref sig .tc .hbm S1024x1024 .f32 :=
  (Memref.whole main_arg4).slice (Rect.unit (s := S4096x1024) (k0_off2 c) S1024x1024.size (k0_off2_inb c)) (fun _ => rfl)
def wqV (c : Dev nD) : Vec F S1024x1024 .f32 := (wqSrc c).view.read (Elt F) (m ((c : Thread nD τ).loc main_arg1))
def woV (c : Dev nD) : Vec F S1024x1024 .f32 := (woSrc c).view.read (Elt F) (m ((c : Thread nD τ).loc main_arg4))
/-- The gathered keys and values of device `c`. -/
def kAll (c : Dev nD) : Vec F S4352x1024 .f32 := gather (kM.view.read (Elt F) (m ((c : Thread nD τ).loc main_arg2)))
def vAll (c : Dev nD) : Vec F S4352x1024 .f32 := gather (vM.view.read (Elt F) (m ((c : Thread nD τ).loc main_arg3)))

/-- What device `c` holds in its send buffer: its partial product. -/
def rsSrc (c : Dev nD) : (cc0_scratch4 : Ref sig .tc).ty.Contents (Elt F) :=
  accOf (k0_pay2 (xstg m c) (wqV m c)) (grp0 (kAll m c)) (grp0 (vAll m c)) (grp1 (kAll m c)) (grp1 (vAll m c)) (grp2 (kAll m c)) (grp2 (vAll m c)) (woV m c)

/-- The peer at distance `j + 1`. -/
def pr (c : Dev nD) (j : Fin 3) : Dev nD := ⟨(c.val + j.val + 1) % 4, Nat.mod_lt _ (by decide)⟩
/-- The device whose peer at distance `j + 1` is `c`. -/
def rp (c : Dev nD) (j : Fin 3) : Dev nD := ⟨(c.val + 3 - j.val) % 4, Nat.mod_lt _ (by decide)⟩
theorem pr_rp (c : Dev nD) (j : Fin 3) : pr (rp c j) j = c := by revert c j; decide
theorem rp_pr (c : Dev nD) (j : Fin 3) : rp (pr c j) j = c := by revert c j; decide

/-- Column `x` of chunk `e`. -/
def chunkCol (e : Dev nD) (x : Fin 256) : Fin 1024 := ⟨256 * e.val + x.val, by have := e.isLt; simp only [nD] at this; omega⟩
/-- Chunk `e` (256 columns) of an array of 256 by 1024. -/
def chunk {α : Type} (f : S256x1024.Idx → α) (e : Dev nD) : S256x256.Idx → α := fun i => f (ix2 (i 0) (chunkCol e (i 1)))

/-- The landing buffer of the reduction on device `e`: slot `j` holds chunk `e` of the partial product of the device `j + 1` before. -/
def rsBuf (e : Dev nD) : (cc0_scratch5 : Ref sig .tc).ty.Contents (Elt F) :=
  fun i => chunk (rsSrc m (rp e (i 0))) e (ix2 (i 1) (i 2))
/-- Slot `j` of an array of three slots. -/
def slot {α : Type} (f : S3x256x256.Idx → α) (j : Fin 3) : S1x256x256.Idx → α := fun i => f (Fin.cons j (Fin.cons (i 1) (Fin.cons (i 2) finZeroElim)))

/-- The chunk of the sum that device `c` computes: before and after rounding to bf16. -/
def redOf (c : Dev nD) : FVec F S256x256 .f32 := k0_pay41 (chunk (rsSrc m c) c) (slot (rsBuf m c) 0) (slot (rsBuf m c) 1) (slot (rsBuf m c) 2)
def agSrc (c : Dev nD) : (cc0_scratch6 : Ref sig .tc).ty.Contents (Elt F) := k0_pay42 (chunk (rsSrc m c) c) (slot (rsBuf m c) 0) (slot (rsBuf m c) 1) (slot (rsBuf m c) 2)
/-- The landing buffer of the gathering on device `e`: slot `j` holds the rounded chunk of the device `j + 1` before. -/
def agBuf (e : Dev nD) : (cc0_scratch7 : Ref sig .tc).ty.Contents (Elt F) := fun i => agSrc m (rp e (i 0)) (ix2 (i 1) (i 2))

/-- The result on device `c`: its own chunk of the sum at the chunk's own columns, the rounded chunks of the others at theirs. -/
def outAt (c : Dev nD) : (cc0_stg1_0 : Ref sig .tc).ty.Contents (Elt F) := fun i =>
  let e : Dev nD := ⟨(i 2).val / 256, by have := (i 2).isLt; simp only [nD]; change (i 2).val < 1024 at this; omega⟩
  let y : S256x256.Idx := ix2 (i 1) (⟨(i 2).val % 256, Nat.mod_lt _ (by decide)⟩ : Fin 256)
  if e = c then redOf m c y else (extf .f32 (agSrc m e) bitsLt_bf16_f32 : FVec F S256x256 .f32) y

end Cert.KernelIdeal.P
-- ==== Proof.Sched.lean ====
/-
  The exchange of the four devices as a schedule of rounds: the cells, what each landing hands over, the units, what
  each device owes at launch and the levels that order the waits.

  Each device `c` has a barrier cell, and for `j = 0, 1, 2` (the peer at distance `j + 1`) a departure and an arrival
  cell of the reduction and a departure and an arrival cell of the gathering. Every cell has one round.
  * Barrier cell of `c`, duty `j`, one unit, paid by the peer `pr c j`: it hands over slot `j` of its two landing
    buffers, which `c` writes.
  * Arrival cell `j` of device `e`, paid by `rp e j`: it hands over slot `j` of the landing buffer of `e`, now holding
    the chunk sent.
  * Departure cell `j` of `c`, paid by `c`: it hands back the elements sent, at the share they were lent at.
-/
module

public import proofs.«01_k».proof.Proof.Vals

@[expose] public section

set_option maxRecDepth 16384

noncomputable section

namespace Cert.KernelIdeal.P

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev EP : Emb (UR sig nD τ) (MT nD τ sig Unit (Elt F) ℕ UU ℕ) := embL
/-- The exchange's rounds: the left half of the right factor. -/
def ER : Emb UB (MT nD τ sig Unit (Elt F) ℕ UU ℕ) :=
  (Emb.inl : Emb UB (UB × Counters)).trans (embR : Emb (UB × Counters) (MT nD τ sig Unit (Elt F) ℕ UU ℕ))
instance ER_landsIn : (ER : Emb UB 𝕄).LandsIn (upEmb : UEmb _ 𝕄) := by unfold ER embR; infer_instance

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Buffers and cells -/

abbrev rsM : Memref sig .tc .vmem S256x1024 .bf16 := Memref.whole cc0_scratch4
abbrev rbM : Memref sig .tc .vmem S3x256x256 .bf16 := Memref.whole cc0_scratch5
abbrev agM : Memref sig .tc .vmem S256x256 .bf16 := Memref.whole cc0_scratch6
abbrev abM : Memref sig .tc .vmem S3x256x256 .bf16 := Memref.whole cc0_scratch7

theorem inb_slot (j : Fin 3) : ∀ a, (![j.val, 0, 0] : Fin 3 → ℕ) a + S1x256x256.size a ≤ S3x256x256.size a := by revert j; decide
/-- Slot `j` of a landing buffer, as a matrix. -/
abbrev slotM (M : Memref sig .tc .vmem S3x256x256 .bf16) (j : Fin 3) : Memref sig .tc .vmem S256x256 .bf16 :=
  (M.slice (Rect.unit (s := S3x256x256) ![j.val, 0, 0] S1x256x256.size (inb_slot j)) (fun _ => rfl)).squeeze S256x256 squeezes_S1x256x256_S256x256
/-- The chunk that device `c` sends to its peer at distance `j + 1`. -/
abbrev chunkM (c : Dev nD) (j : Fin 3) : Memref sig .tc .vmem S256x256 .bf16 :=
  rsM.slice (Rect.unit (s := S256x1024) (k0_off3 c (BitVec.ofNat 32 (1 + j.val))) S256x256.size (k0_off3_inb c j)) (fun _ => rfl)

abbrev barS : Sem sig := (SemArray.scalar (sig.barrier 0 rfl) : Sems sig S_).sem
/-- The transfer semaphores: kind `k` (0 departure and 1 arrival of the reduction, 2 and 3 of the gathering), peer `j`. -/
abbrev xS (k : Fin 4) (j : Fin 3) : DmaSem sig := ⟨10 + 3 * k.val + j.val, by have := k.isLt; have := j.isLt; show _ < 22; omega⟩

abbrev barCell (c : Dev nD) : GSem nD τ sig := ((c : Thread nD τ), .reg barS)
abbrev xCell (c : Dev nD) (k : Fin 4) (j : Fin 3) : GSem nD τ sig := ((c : Thread nD τ), .dma (xS k j))

/-- The units of one transfer. -/
abbrev N : ℕ := (slotM rbM 0).view.dmaCredit
theorem N_pos : 0 < N := View.dmaCredit_pos _ (by decide)
theorem N_slot (j : Fin 3) : (slotM rbM j).view.dmaCredit = N := by revert j; decide
theorem N_slotA (j : Fin 3) : (slotM abM j).view.dmaCredit = N := by revert j; decide

/-! ## What the landings hand over -/

/-- Slot `j` of the reduction's landing buffer on `e` at contents `f`, and of the gathering's. -/
def rbPts (e : Dev nD) (j : Fin 3) (f : Buf (Elt F) (rbM.view.loc (e : Thread nD τ))) : sProp 𝕄 :=
  (slotM rbM j).view.loc (e : Thread nD τ) ↦[(slotM rbM j).view.set]{fullShare} f
def abPts (e : Dev nD) (j : Fin 3) (f : Buf (Elt F) (abM.view.loc (e : Thread nD τ))) : sProp 𝕄 :=
  (slotM abM j).view.loc (e : Thread nD τ) ↦[(slotM abM j).view.set]{fullShare} f

/-- The share at which a source is lent to the transfer to peer `j`. -/
abbrev lend (j : Fin 3) : PosShare TreeShare := Transfers.shareTokN fullShare j.val

def barPay (c : Dev nD) (j : Fin 3) : sProp 𝕄 :=
  iprop((∃ f, rbPts (F := F) (pr c j) j f) ∗ (∃ f, abPts (F := F) (pr c j) j f) ∗ reached ER (xCell (pr c j) 1 j) 0 ∗ reached ER (xCell (pr c j) 3 j) 0)
def rsSPay (c : Dev nD) (j : Fin 3) : sProp 𝕄 := (chunkM c j).view.loc (c : Thread nD τ) ↦[(chunkM c j).view.set]{lend j} rsSrc m c
def rsRPay (e : Dev nD) (j : Fin 3) : sProp 𝕄 := rbPts e j (rsBuf m e)
def agSPay (c : Dev nD) (j : Fin 3) : sProp 𝕄 := agM.view.loc (c : Thread nD τ) ↦[agM.view.set]{lend j} agSrc m c
def agRPay (e : Dev nD) (j : Fin 3) : sProp 𝕄 := abPts e j (agBuf m e)

omit [FloatOps F] in
instance rbPts_storable (e j f) : BI.Storable (upEmb : UEmb _ 𝕄) (rbPts (F := F) e j f) := by unfold rbPts; infer_instance
omit [FloatOps F] in
instance abPts_storable (e j f) : BI.Storable (upEmb : UEmb _ 𝕄) (abPts (F := F) e j f) := by unfold abPts; infer_instance
omit [FloatOps F] in
instance barPay_storable (c j) : BI.Storable (upEmb : UEmb _ 𝕄) (barPay (F := F) c j) := by unfold barPay; infer_instance
instance rsSPay_storable (c j) : BI.Storable (upEmb : UEmb _ 𝕄) (rsSPay (F := F) m c j) := by unfold rsSPay; infer_instance
instance rsRPay_storable (c j) : BI.Storable (upEmb : UEmb _ 𝕄) (rsRPay (F := F) m c j) := by unfold rsRPay; infer_instance
instance agSPay_storable (c j) : BI.Storable (upEmb : UEmb _ 𝕄) (agSPay (F := F) m c j) := by unfold agSPay; infer_instance
instance agRPay_storable (c j) : BI.Storable (upEmb : UEmb _ 𝕄) (agRPay (F := F) m c j) := by unfold agRPay; infer_instance

/-- What a landing of kind `k` hands over. -/
def xPay (c : Dev nD) (k : Fin 4) (j : Fin 3) : sProp 𝕄 :=
  match k with
  | 0 => rsSPay m c j
  | 1 => rsRPay m c j
  | 2 => agSPay m c j
  | 3 => agRPay m c j
instance xPay_storable (c k j) : BI.Storable (upEmb : UEmb _ 𝕄) (xPay (F := F) m c k j) := by
  unfold xPay; fin_cases k <;> infer_instance

/-! ## The schedule -/

/-- Is the semaphore one of the exchange's transfer semaphores? -/
abbrev IsX (s : SemLoc sig) : Prop := ∃ k j, s = .dma (xS k j)
def kindOf (q : DmaSem sig) : Fin 4 := ⟨(q.val - 10) / 3 % 4, Nat.mod_lt _ (by decide)⟩
def peerOf (q : DmaSem sig) : Fin 3 := ⟨(q.val - 10) % 3, Nat.mod_lt _ (by decide)⟩
theorem kindOf_xS (k : Fin 4) (j : Fin 3) : kindOf (xS k j) = k := by revert k j; decide
theorem peerOf_xS (k : Fin 4) (j : Fin 3) : peerOf (xS k j) = j := by revert k j; decide
theorem x_ne_bar (q : DmaSem sig) : (SemLoc.dma q : SemLoc sig) ≠ .reg barS := fun h => by cases h

def Rd : Rounds.Schedule (GSem nD τ sig) (Fin 3) 𝕄 where
  duties g r := if r = 0 ∧ g.1.2 = .tc ∧ g.2 = .reg barS then Finset.univ else if r = 0 ∧ g.1.2 = .tc ∧ IsX g.2 then {0} else ∅
  unitless _ := False
  amount g _ _ := if g.2 = .reg barS then 1 else N
  payload g _ d := match g.2 with
    | .reg _ => barPay g.1.1 d
    | .dma q => xPay m g.1.1 (kindOf q) (peerOf q)
  amount_pos g _ _ _ := by
    by_cases h : g.2 = .reg barS
    · rw [if_pos h]; exact Nat.one_pos
    · rw [if_neg h]; exact N_pos

instance Rd_payload_storable (g : GSem nD τ sig) (r : ℕ) (d : Fin 3) : BI.Storable (upEmb : UEmb _ 𝕄) ((Rd (F := F) m).payload g r d) := by
  obtain ⟨t, s⟩ := g
  cases s
  · show BI.Storable upEmb (barPay (F := F) t.1 d); infer_instance
  · show BI.Storable upEmb (xPay (F := F) m t.1 _ _); infer_instance

section Tables
variable (c : Dev nD) (k : Fin 4) (j d : Fin 3)

theorem duties_bar : (Rd (F := F) m).duties (barCell c) 0 = Finset.univ := by dsimp only [Rd]; exact if_pos ⟨rfl, rfl, rfl⟩
theorem duties_x : (Rd (F := F) m).duties (xCell c k j) 0 = {0} := by
  dsimp only [Rd]; rw [if_neg (fun h => x_ne_bar _ h.2.2)]; exact if_pos ⟨rfl, rfl, k, j, rfl⟩
theorem duties_later (g : GSem nD τ sig) : ∀ r, 1 ≤ r → (Rd (F := F) m).duties g r = ∅ :=
  fun r hr => by dsimp only [Rd]; rw [if_neg fun h => by omega, if_neg fun h => by omega]
theorem amount_bar : (Rd (F := F) m).amount (barCell c) 0 d = 1 := by dsimp only [Rd]; exact if_pos rfl
theorem amount_x : (Rd (F := F) m).amount (xCell c k j) 0 d = N := by dsimp only [Rd]; exact if_neg (x_ne_bar _)
theorem expect_bar : (Rd (F := F) m).expect (barCell c) 0 = 3 := by
  unfold Schedule.expect Schedule.amountOf
  rw [duties_bar, Finset.sum_congr rfl fun d _ => amount_bar m c d, Finset.sum_const, Finset.card_univ, Fintype.card_fin, smul_eq_mul]
theorem expect_x : (Rd (F := F) m).expect (xCell c k j) 0 = N := by
  unfold Schedule.expect Schedule.amountOf; rw [duties_x, Finset.sum_singleton, amount_x]
theorem payload_bar : (Rd (F := F) m).payload (barCell c) 0 j = barPay c j := rfl
theorem payload_x : (Rd (F := F) m).payload (xCell c k j) 0 d = xPay m c k j := by
  show xPay m c (kindOf (xS k j)) (peerOf (xS k j)) = _; rw [kindOf_xS, peerOf_xS]
theorem rest_bar : bigSep ((Rd (F := F) m).duties (barCell c) 0 \ ∅) (fun d => (Rd (F := F) m).payload (barCell c) 0 d)
    = iprop(barPay c 0 ∗ barPay c 1 ∗ barPay c 2) := by
  rw [Finset.sdiff_empty, duties_bar, bigSep_univ_eq_bigSepL [0, 1, 2] (by decide) (by decide)]; rfl
theorem rest_x : bigSep ((Rd (F := F) m).duties (xCell c k j) 0 \ ∅) (fun d => (Rd (F := F) m).payload (xCell c k j) 0 d) = xPay m c k j := by
  rw [Finset.sdiff_empty, duties_x, bigSep_singleton, payload_x]
end Tables

/-! ## What each core owes at launch; the levels -/

/-- Device `c` owes each peer's arrival cells the units of one transfer each, and each peer's barrier cell one unit. -/
def Oag (c : Dev nD) : CellTallies nD τ sig Unit := tallyAt (xCell (pr c 2) 3 2) () N + tallyAt (xCell (pr c 1) 3 1) () N + tallyAt (xCell (pr c 0) 3 0) () N
def Ors (c : Dev nD) : CellTallies nD τ sig Unit := Oag c + tallyAt (xCell (pr c 2) 1 2) () N + tallyAt (xCell (pr c 1) 1 1) () N + tallyAt (xCell (pr c 0) 1 0) () N
def O₀ (c : Dev nD) : CellTallies nD τ sig Unit := Ors c + tallyAt (barCell (pr c 2)) () 1 + tallyAt (barCell (pr c 1)) () 1 + tallyAt (barCell (pr c 0)) () 1

def L (g : GSem nD τ sig) : Finset Unit := if g.1.2 = .tc then {()} else ∅
def lvS : SemLoc sig → ℕ
  | .reg s => if s = barS then 1 else 0
  | .dma q => if 19 ≤ q.val then 3 else if 13 ≤ q.val ∧ q.val < 16 then 2 else 0
/-- Barrier cells at 1, the reduction's arrivals at 2, the gathering's at 3, everything else at 0. -/
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl
theorem L_tc' (c : Dev nD) (sm : SemLoc sig) : () ∈ L ((c : Thread nD τ), sm) := by rw [L_tc]; exact Finset.mem_singleton_self _

/-- A tally is above level `n`: everything it names is a TensorCore's cell of a level above `n`. -/
def Above (n : ℕ) (O : CellTallies nD τ sig Unit) : Prop := ∀ g u, 0 < O g u → u ∈ L g ∧ n < lv g u

theorem above_tally (n : ℕ) (c : Dev nD) (s : SemLoc sig) (k : ℕ) (h : n < lvS s) : Above n (tallyAt ((c : Thread nD τ), s) () k) := by
  intro g u hg
  rw [tallyAt_apply] at hg
  by_cases he : g = ((c : Thread nD τ), s) ∧ u = ()
  · rw [he.1]; exact ⟨L_tc' _ _, h⟩
  · rw [if_neg he] at hg; exact absurd hg (Nat.lt_irrefl 0)
theorem above_add {n : ℕ} {O O' : CellTallies nD τ sig Unit} (h : Above n O) (h' : Above n O') : Above n (O + O') := by
  intro g u hg
  rw [Pi.add_apply, Finsupp.add_apply] at hg
  rcases Nat.eq_zero_or_pos (O g u) with h0 | h0
  · exact h' g u (by omega)
  · exact h g u h0
theorem above_zero (n : ℕ) : Above n 0 := fun g u hg => absurd hg (Nat.lt_irrefl 0)

/-- A wait at level at most `n` is admitted while owing only above `n`. -/
theorem mayWait_of_above (c : Dev nD) (sm : SemLoc sig) (n : ℕ) (hs : lvS sm ≤ n) {O : CellTallies nD τ sig Unit} (h : Above n O) :
    (levAts L lv : sProp 𝕄) ⊢ MayWait (c : Thread nD τ) sm () O :=
  MayOwe.of_cut (L := L) (lev := lv) n (fun p hp => by rw [Finset.mem_singleton.mp hp]; exact L_tc' _ _)
    (fun g u hg => (h g u hg).1)
    (fun p hp => by rw [Finset.mem_singleton.mp hp]; exact hs)
    (fun g u hg => (h g u hg).2)

theorem above_Oag (c : Dev nD) : Above 2 (Oag c) :=
  above_add (above_add (above_tally _ _ _ _ (by decide)) (above_tally _ _ _ _ (by decide))) (above_tally _ _ _ _ (by decide))
theorem Above.mono {n n' : ℕ} (h : n' ≤ n) {O : CellTallies nD τ sig Unit} (hO : Above n O) : Above n' O :=
  fun g u hg => ⟨(hO g u hg).1, h.trans_lt (hO g u hg).2⟩
theorem above_Ors (c : Dev nD) : Above 1 (Ors c) :=
  above_add (above_add (above_add ((above_Oag c).mono (by decide)) (above_tally _ _ _ _ (by decide))) (above_tally _ _ _ _ (by decide))) (above_tally _ _ _ _ (by decide))
theorem above_O₀ (c : Dev nD) : Above 0 (O₀ c) :=
  above_add (above_add (above_add ((above_Ors c).mono (by decide)) (above_tally _ _ _ _ (by decide))) (above_tally _ _ _ _ (by decide))) (above_tally _ _ _ _ (by decide))

end Cert.KernelIdeal.P
-- ==== Proof.Steps.lean ====
/-
  The steps of the exchange as rules: a signal to a peer's barrier cell, the wait on one's own, a transfer to a peer,
  the wait on a transfer cell (which closes the cell).
-/
module

public import proofs.«01_k».proof.Proof.Sched
public import Idealize.ShloMosaic.Lib.ViewIndex

@[expose] public section

set_option maxRecDepth 16384

noncomputable section

namespace Cert.KernelIdeal.P

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-- The cells of one device: its barrier cell and its twelve transfer cells. -/
abbrev CellIx : Type := Dev nD × Option (Fin 4 × Fin 3)
abbrev csem : Option (Fin 4 × Fin 3) → SemLoc sig := fun | none => .reg barS | some kj => .dma (xS kj.1 kj.2)
abbrev kcell (ck : CellIx) : GSem nD τ sig := ((ck.1 : Thread nD τ), csem ck.2)

variable (K : CellIx → ℕ)

/-- What a device needs to pay a departure (kind `k`) and the arrival (kind `k'`) it causes at its peer `pr c j`. -/
def sendRes (c : Dev nD) (k k' : Fin 4) (j : Fin 3) : sProp 𝕄 :=
  iprop(cellInv ER (Rd m) (K (c, some (k, j))) (xCell c k j) ∗ cellInv ER (Rd m) (K (pr c j, some (k', j))) (xCell (pr c j) k' j)
    ∗ dutyTok ER (xCell c k j) 0 0 ∗ reached ER (xCell c k j) 0 ∗ dutyTok ER (xCell (pr c j) k' j) 0 0)
/-- What a device needs to wait on its own transfer cell. -/
def waitRes (c : Dev nD) (k : Fin 4) (j : Fin 3) : sProp 𝕄 :=
  iprop(cellInv ER (Rd m) (K (c, some (k, j))) (xCell c k j) ∗ atPos ER (xCell c k j) 0 ∅ 0)
/-- What a device needs to signal its peer `pr c j`: the duty is the one of the peer at the remaining distance. -/
def sigRes (c : Dev nD) (j j' : Fin 3) : sProp 𝕄 :=
  iprop(cellInv ER (Rd m) (K (pr c j, none)) (barCell (pr c j)) ∗ dutyTok ER (barCell (pr c j)) 0 j' ∗ reached ER (barCell (pr c j)) 0
    ∗ reached ER (xCell c 1 j') 0 ∗ reached ER (xCell c 3 j') 0)

theorem pr_pr (c : Dev nD) (j j' : Fin 3) (h : j.val + j'.val = 2) : pr (pr c j) j' = c := by revert c j j'; decide

/-- The signal to the peer at distance `j + 1`: it hands over slot `j'` of the two landing buffers. -/
theorem wp_sig (c n : Dev nD) (j j' : Fin 3) (h : j.val + j'.val = 2) (hn : n = pr c j) {α : Type} {Q : α → sProp 𝕄}
    {k : PUnit → Prog (TpuEff nD τ sig (Elt F) Λ₀ .tc) α} {a : ℕ} (ha : 1 = a) (O : CellTallies nD τ sig Unit) (W : Waits sig Unit)
    (f : Buf (Elt F) (rbM.view.loc (c : Thread nD τ))) (g : Buf (Elt F) (abM.view.loc (c : Thread nD τ))) :
    iprop(sigRes m K c j j' ∗ owes (c : Thread nD τ) (O + tallyAt (barCell (pr c j)) () 1) W ∗ rbPts c j' f ∗ abPts c j' g)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS a) k) Q) := by
  subst hn
  subst ha
  unfold sigRes
  iintro ⟨⟨#HI, Ht, #Hr, #Hr1, #Hr3⟩, HO, Hf, Hg⟩ Hk
  iapply (Rounds.wp_signal 𝒱₀ ER (Rd m) (c : Thread nD τ) none (dst := (pr c j : Thread nD τ)) (κ := K (pr c j, none)) (r := 0) (d := j')
    (by rw [duties_bar]; exact Finset.mem_univ _) (amount_bar m (pr c j) j') () O rfl) $$ [HO Ht Hf Hg]
  · isplitr; · iexact HI
    isplitl [HO]; · iexact HO
    isplitl [Ht]; · iexact Ht
    isplitl [Hf Hg]
    · rw [payload_bar]; unfold barPay; rw [pr_pr c j j' h]
      isplitl [Hf]; · iexists f; iexact Hf
      isplitl [Hg]; · iexists g; iexact Hg
      isplitr; · iexact Hr1
      iexact Hr3
    · iexact Hr
  iexact Hk

/-- The wait on the device's own barrier cell: the peers' slots come with it, and the cell closes. -/
theorem wp_barWait (c : Dev nD) {α : Type} {Q : α → sProp 𝕄}
    {k : PUnit → Prog (TpuEff nD τ sig (Elt F) Λ₀ .tc) α} {a : ℕ} (ha : a = 3) {O : CellTallies nD τ sig Unit} (hO : Above 1 O) (W : Waits sig Unit) :
    iprop(cellInv ER (Rd m) (K (c, none)) (barCell c) ∗ atPos ER (barCell c) 0 ∅ 0 ∗ cred (tallyAt (barCell c) () 3) ∗ levAts L lv ∗ owes (c : Thread nD τ) O W)
      ⊢ iprop(((owes (c : Thread nD τ) O (insert (SemLoc.reg barS, ()) W) ∗ semVal (barCell c) 0 ∗ barPay (F := F) c 0 ∗ barPay (F := F) c 1 ∗ barPay (F := F) c 2)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS a) k) Q) := by
  subst ha
  iintro ⟨#HI, Hat, Hc, #Hlev, HO⟩ Hk
  iapply (Rounds.wp_wait_rest_token 𝒱₀ ER (Rd m) (c : Thread nD τ) none (κ := K (c, none))
      (wpE_semWait_eq 𝒱₀ (c : Thread nD τ) none Set.univ) (Set.mem_univ _) () (O := O) (W := W) (R := 0) (m := 0) (T := ∅)
      (by rw [expect_bar])) $$ [Hc HO Hat]
  · isplitr; · iexact HI
    isplitl [Hc]; · iexact Hc
    isplitl [HO]; · iexact HO
    isplitr; · iapply (mayWait_of_above c (.reg barS) 1 (by decide) hO); iexact Hlev
    iexact Hat
  iintro ⟨HO, Hat, -, Hpay⟩
  ihave Hp := (Entails.of_eq (rest_bar m c)) $$ Hpay
  imod (Rounds.cell_close ER (Rd m) (Set.mem_univ (K (c, none))) (fun h => h) (R := 0 + 1) (duties_later m (barCell c))) $$ [Hat] with Hz
  · isplitr; · iexact HI
    iexact Hat
  iapply Hk
  isplitl [HO]; · iexact HO
  isplitl [Hz]; · iexact Hz
  iexact Hp

/-- A wait on one of the device's own transfer cells: what landed comes with it, and the cell closes. -/
theorem wp_xWait (c : Dev nD) (kd : Fin 4) (j : Fin 3) {sp sp' : Space} {s s' : Shape} {e e' : EltTy} {src : Memref sig .tc sp' s' e'} {dst : Memref sig .tc sp s e}
    (hN : dst.view.dmaCredit = N) {hsrc : src.view.WordExact} {hdst : dst.view.WordExact} {α : Type} {Q : α → sProp 𝕄}
    {k : PUnit → Prog (TpuEff nD τ sig (Elt F) Λ₀ .tc) α} {O : CellTallies nD τ sig Unit} (hO : Above (lvS (.dma (xS kd j))) O) (W : Waits sig Unit) :
    iprop(waitRes m K c kd j ∗ cred (tallyAt (xCell c kd j) () N) ∗ levAts L lv ∗ owes (c : Thread nD τ) O W)
      ⊢ iprop(((owes (c : Thread nD τ) O (insert (SemLoc.dma (xS kd j), ()) W) ∗ semVal (xCell c kd j) 0 ∗ xPay m c kd j)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (xS kd j) src dst hsrc hdst) k) Q) := by
  have hw : ∀ T : PUnit → sProp 𝕄, wpE (defs₀ (F := F)) 𝒱₀ (c : Thread nD τ) none Set.univ (.waitDma2 (xS kd j) src dst hsrc hdst) T
      = waitSpec (c : Thread nD τ) Set.univ (.dma (xS kd j)) N T := by
    intro T; rw [← hN]; exact wpE_waitDma2_eq 𝒱₀ (c : Thread nD τ) none Set.univ T
  unfold waitRes
  iintro ⟨⟨#HI, Hat⟩, Hc, #Hlev, HO⟩ Hk
  iapply (Rounds.wp_wait_rest_token 𝒱₀ ER (Rd m) (c : Thread nD τ) none (κ := K (c, some (kd, j))) (sm := .dma (xS kd j))
      hw (Set.mem_univ _) () (O := O) (W := W) (R := 0) (m := 0) (T := ∅)
      (by rw [Nat.zero_add, expect_x])) $$ [Hc HO Hat]
  · isplitr; · iexact HI
    isplitl [Hc]; · iexact Hc
    isplitl [HO]; · iexact HO
    isplitr; · iapply (mayWait_of_above c (.dma (xS kd j)) _ le_rfl hO); iexact Hlev
    iexact Hat
  iintro ⟨HO, Hat, -, Hpay⟩
  ihave Hp := (Entails.of_eq (rest_x m c kd j)) $$ Hpay
  imod (Rounds.cell_close ER (Rd m) (Set.mem_univ (K (c, some (kd, j)))) (fun h => h) (R := 0 + 1) (duties_later m (xCell c kd j))) $$ [Hat] with Hz
  · isplitr; · iexact HI
    iexact Hat
  iapply Hk
  isplitl [HO]; · iexact HO
  isplitl [Hz]; · iexact Hz
  iexact Hp

/-! ## What a transfer leaves in its slot -/

theorem off3_eq (c : Dev nD) (j : Fin 3) : k0_off3 c (BitVec.ofNat 32 (1 + j.val)) = ![0, 256 * (pr c j).val] := by revert c j; decide +kernel

/-- Two indices of a matrix are equal if their coordinates are. -/
theorem ext2 {d : Fin 2 → ℕ} {x y : (⟨2, d⟩ : Shape).Idx} (h0 : (x 0).val = (y 0).val) (h1 : (x 1).val = (y 1).val) : x = y :=
  funext fun a => by
    match a with
    | ⟨0, _⟩ => exact Fin.ext h0
    | ⟨1, _⟩ => exact Fin.ext h1

/-- A chunk of the partial product, read through the view the transfer names. -/
theorem chunkM_read (c : Dev nD) (j : Fin 3) (f : (cc0_scratch4 : Ref sig .tc).ty.Contents (Elt F)) :
    (chunkM c j).view.read (Elt F) f = chunk f (pr c j) := by
  funext i
  refine congrArg f (ext2 ?_ ?_)
  · change (k0_off3 c (BitVec.ofNat 32 (1 + j.val))) 0 + 1 * (i 0).val = (i 0).val
    rw [off3_eq]; simp
  · change (k0_off3 c (BitVec.ofNat 32 (1 + j.val))) 1 + 1 * (i 1).val = 256 * (pr c j).val + (i 1).val
    rw [off3_eq]; simp

/-- A slot rewritten with an array holds, at the slot's elements, what any contents whose slot is that array holds. -/
theorem slot_landed (M : Memref sig .tc .vmem S3x256x256 .bf16) (j : Fin 3) (f g : M.view.ref.ty.Contents (Elt F)) (x : S256x256.Idx → Elt F .bf16)
    (h : (slotM M j).view.read (Elt F) g = x) :
    ∀ i ∈ (slotM M j).view.set, (slotM M j).view.write (Elt F) f x Finset.univ i = g i := by
  intro i hi
  obtain ⟨y, -, rfl⟩ := Finset.mem_map.mp hi
  exact View.eq_of_read_eq (by rw [View.read_write_univ, h])

/-- Where an element of a slot lies in its buffer. -/
theorem slot_emb (M : Memref sig .tc .vmem S3x256x256 .bf16) (j : Fin 3) (i : S256x256.Idx) :
    (slotM M j).view.emb i = M.view.emb (Fin.cons j (Fin.cons (i 0) (Fin.cons (i 1) finZeroElim)) : S3x256x256.Idx) := by
  refine congrArg M.view.emb ?_
  have h : Shape.reshapeEquiv (s := S1x256x256) (s' := S256x256) (by decide) i = (Fin.cons (⟨0, Nat.one_pos⟩ : Fin 1) i : S1x256x256.Idx) := Shape.reshapeEquiv_cons_one _ _
  refine Shape.idx3_ext ?_ ?_ ?_
  · change j.val + 1 * (Shape.reshapeEquiv (s := S1x256x256) (s' := S256x256) (by decide) i 0).val = j.val
    rw [h]; rfl
  · change 0 + 1 * (Shape.reshapeEquiv (s := S1x256x256) (s' := S256x256) (by decide) i 1).val = (i 0).val
    rw [h]; simp; rfl
  · change 0 + 1 * (Shape.reshapeEquiv (s := S1x256x256) (s' := S256x256) (by decide) i 2).val = (i 1).val
    rw [h]; simp; rfl

theorem rbSlot_read (e : Dev nD) (j : Fin 3) : (slotM rbM j).view.read (Elt F) (rsBuf m e) = chunk (rsSrc m (rp e j)) e := by
  funext i
  change rsBuf m e ((slotM rbM j).view.emb i) = _
  rw [slot_emb]; rfl
theorem abSlot_read (e : Dev nD) (j : Fin 3) : (slotM abM j).view.read (Elt F) (agBuf m e) = agSrc m (rp e j) := by
  funext i
  change agBuf m e ((slotM abM j).view.emb i) = _
  rw [slot_emb]
  exact congrArg (agSrc m (rp e j)) (ext2 rfl rfl)

/-- The reduction's transfer to the peer at distance `j + 1`. -/
theorem wp_rsSend (c n : Dev nD) (j : Fin 3) (hn : n = pr c j) {hsc : (slotM rbM j : Memref sig (Dev.tc n : Thread nD τ).2.kind .vmem S256x256 .bf16).view.ref.isScScratch = false}
    {hsrc : (chunkM c j).view.WordExact} {hdst : (slotM rbM j).view.WordExact}
    {hsem : DmaTarget.Typed .vmem (.dma (xS 1 j)) (.remote (Dev.tc n : Thread nD τ) (slotM rbM j) (.dma (xS 0 j)) hsc)}
    {α : Type} {Q : α → sProp 𝕄} {k : PUnit → Prog (TpuEff nD τ sig (Elt F) Λ₀ .tc) α}
    (fd : Buf (Elt F) (rbM.view.loc (pr c j : Thread nD τ))) (O : CellTallies nD τ sig Unit) (W : Waits sig Unit) :
    iprop(sendRes m K c 0 1 j ∗ reached ER (xCell (pr c j) 1 j) 0 ∗ (rsM.view.loc (c : Thread nD τ) ↦{lend j} rsSrc m c) ∗ rbPts (pr c j) j fd
        ∗ owes (c : Thread nD τ) (O + tallyAt (xCell (pr c j) 1 j) () N) W)
      ⊢ iprop(((cred (tallyAt (xCell c 0 j) () N) ∗ owes (c : Thread nD τ) O W ∗ (rsM.view.loc (c : Thread nD τ) ↦[Finset.univ \ (chunkM c j).view.set]{lend j} rsSrc m c))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (chunkM c j) (.remote (Dev.tc n : Thread nD τ) (slotM rbM j) (.dma (xS 0 j)) hsc) (.dma (xS 1 j)) hsrc hdst hsem) k) Q) := by
  subst hn
  unfold sendRes
  iintro ⟨⟨#HI, #HI', Ht, #Hr, Ht'⟩, #Hr', Hs, Hd, HO⟩ Hk
  ihave Hs2 := (pointsTo_split_subset (Finset.subset_univ (chunkM c j).view.set)).1 $$ Hs
  icases Hs2 with ⟨Hs, Hrest⟩
  iapply (Rounds.wp_send_pointsTo 𝒱₀ ER (Rd m) (c : Thread nD τ) none (c' := (pr c j : Thread nD τ)) (src := chunkM c j) (dst := slotM rbM j) (sem := .dma (xS 1 j)) (sS := .dma (xS 0 j)) (q := lend j) (fs := rsSrc m c) (fd := fd)
    (κ₁ := K (c, some (0, j))) (κ₂ := K (pr c j, some (1, j))) (r₁ := 0) (r₂ := 0) (d₁ := 0) (d₂ := 0)
    (by rw [duties_x]; exact Finset.mem_singleton_self _) (by rw [duties_x]; exact Finset.mem_singleton_self _)
    () () N (N_slot j) (amount_x m c 0 j 0) (amount_x m (pr c j) 1 j 0) O rfl (W := W)
    (by rw [payload_x]; exact BI.Entails.refl _)
    (by rw [payload_x]; unfold xPay rsRPay rbPts; refine Entails.of_eq (pointsTo_congr (slot_landed rbM j _ _ _ ?_)); rw [rbSlot_read, chunkM_read, rp_pr])) $$ [Hs Hd HO Ht Ht']
  · isplitr; · iexact HI
    isplitr; · iexact HI'
    isplitl [Hs]; · iexact Hs
    isplitl [Hd]; · unfold rbPts; iexact Hd
    isplitl [HO]; · iexact HO
    isplitl [Ht]; · iexact Ht
    isplitr; · iexact Hr
    isplitl [Ht']; · iexact Ht'
    iexact Hr'
  iintro ⟨Hc, HO⟩
  iapply Hk
  isplitl [Hc]; · iexact Hc
  isplitl [HO]; · iexact HO
  iexact Hrest

theorem N_chunk (c : Dev nD) (j : Fin 3) : (chunkM c j).view.dmaCredit = N := rfl
theorem N_ag : agM.view.dmaCredit = N := rfl

/-- The gathering's transfer to the peer at distance `j + 1`. -/
theorem wp_agSend (c n : Dev nD) (j : Fin 3) (hn : n = pr c j) {hsc : (slotM abM j : Memref sig (Dev.tc n : Thread nD τ).2.kind .vmem S256x256 .bf16).view.ref.isScScratch = false}
    {hsrc : agM.view.WordExact} {hdst : (slotM abM j).view.WordExact}
    {hsem : DmaTarget.Typed .vmem (.dma (xS 3 j)) (.remote (Dev.tc n : Thread nD τ) (slotM abM j) (.dma (xS 2 j)) hsc)}
    {α : Type} {Q : α → sProp 𝕄} {k : PUnit → Prog (TpuEff nD τ sig (Elt F) Λ₀ .tc) α}
    (fd : Buf (Elt F) (abM.view.loc (pr c j : Thread nD τ))) (O : CellTallies nD τ sig Unit) (W : Waits sig Unit) :
    iprop(sendRes m K c 2 3 j ∗ reached ER (xCell (pr c j) 3 j) 0 ∗ agSPay m c j ∗ abPts (pr c j) j fd
        ∗ owes (c : Thread nD τ) (O + tallyAt (xCell (pr c j) 3 j) () N) W)
      ⊢ iprop(((cred (tallyAt (xCell c 2 j) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma agM (.remote (Dev.tc n : Thread nD τ) (slotM abM j) (.dma (xS 2 j)) hsc) (.dma (xS 3 j)) hsrc hdst hsem) k) Q) := by
  subst hn
  unfold sendRes
  iintro ⟨⟨#HI, #HI', Ht, #Hr, Ht'⟩, #Hr', Hs, Hd, HO⟩ Hk
  iapply (Rounds.wp_send_pointsTo 𝒱₀ ER (Rd m) (c : Thread nD τ) none (c' := (pr c j : Thread nD τ)) (src := agM) (dst := slotM abM j) (sem := .dma (xS 3 j)) (sS := .dma (xS 2 j)) (q := lend j) (fs := agSrc m c) (fd := fd)
    (κ₁ := K (c, some (2, j))) (κ₂ := K (pr c j, some (3, j))) (r₁ := 0) (r₂ := 0) (d₁ := 0) (d₂ := 0)
    (by rw [duties_x]; exact Finset.mem_singleton_self _) (by rw [duties_x]; exact Finset.mem_singleton_self _)
    () () N (N_slotA j) (amount_x m c 2 j 0) (amount_x m (pr c j) 3 j 0) O rfl (W := W)
    (by rw [payload_x]; exact BI.Entails.refl _)
    (by rw [payload_x]; unfold xPay agRPay abPts; refine Entails.of_eq (pointsTo_congr (slot_landed abM j _ _ _ ?_)); rw [abSlot_read, rp_pr]; exact (View.read_whole _ _).symm)) $$ [Hs Hd HO Ht Ht']
  · isplitr; · iexact HI
    isplitr; · iexact HI'
    isplitl [Hs]; · unfold agSPay; iexact Hs
    isplitl [Hd]; · unfold abPts; iexact Hd
    isplitl [HO]; · iexact HO
    isplitl [Ht]; · iexact Ht
    isplitr; · iexact Hr
    isplitl [Ht']; · iexact Ht'
    iexact Hr'
  iexact Hk

end Cert.KernelIdeal.P
-- ==== Proof.Exch.lean ====
/-
  The exchange of the partial products: the program from the first transfer of the reduction to the end, run at one device.
-/
module

public import proofs.«01_k».proof.Proof.Steps
public import Idealize.ShloMosaic.Lib.VecWindow

@[expose] public section

set_option maxRecDepth 16384

noncomputable section

namespace Cert.KernelIdeal.P

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (K : CellIx → ℕ)

/-! ## A landing buffer is its three slots -/

theorem mem_slot (M : Memref sig .tc .vmem S3x256x256 .bf16) (j : Fin 3) (x : S3x256x256.Idx) :
    M.view.emb x ∈ (slotM M j).view.set ↔ (x 0).val = j.val := by
  constructor
  · intro h
    obtain ⟨y, -, hy⟩ := Finset.mem_map.mp h
    rw [slot_emb] at hy
    have := M.view.emb.injective hy
    rw [← this]; rfl
  · intro h
    refine Finset.mem_map.mpr ⟨ix2 (x 1) (x 2), Finset.mem_univ _, ?_⟩
    rw [slot_emb]
    exact congrArg M.view.emb (Shape.idx3_ext h.symm rfl rfl)

theorem rb_mem (j : Fin 3) (x : S3x256x256.Idx) : x ∈ (slotM rbM j).view.set ↔ (x 0).val = j.val := mem_slot rbM j x
theorem ab_mem (j : Fin 3) (x : S3x256x256.Idx) : x ∈ (slotM abM j).view.set ↔ (x 0).val = j.val := mem_slot abM j x

/-- An array owned whole is owned in three parts that cover it. -/
theorem pointsTo_three {ℓ : Loc nD τ sig} (A B C : Finset ℓ.ty.Idx) (f : Buf (Elt F) ℓ) (q : PosShare TreeShare)
    (hu : A ∪ (B ∪ C) = Finset.univ) (h1 : Disjoint A (B ∪ C)) (h2 : Disjoint B C) :
    (ℓ ↦{q} f : sProp 𝕄) ⊣⊢ iprop((ℓ ↦[A]{q} f) ∗ (ℓ ↦[B]{q} f) ∗ (ℓ ↦[C]{q} f)) := by
  rw [← hu]
  exact (pointsTo_union h1).trans (sep_congr .rfl (pointsTo_union h2))

theorem rb_slots (c : Dev nD) (f : Buf (Elt F) (rbM.view.loc (c : Thread nD τ))) :
    (rbM.view.loc (c : Thread nD τ) ↦{fullShare} f : sProp 𝕄) ⊣⊢ iprop(rbPts c 0 f ∗ rbPts c 1 f ∗ rbPts c 2 f) := by
  unfold rbPts
  refine pointsTo_three (ℓ := rbM.view.loc (c : Thread nD τ)) _ _ _ f fullShare ?_ ?_ ?_
  · ext x; have hx : (x 0).val < 3 := (x 0).isLt
    simp only [Finset.mem_union, Finset.mem_univ, iff_true]
    rw [rb_mem, rb_mem, rb_mem]; simp; omega
  · rw [Finset.disjoint_left]; intro x h h'; simp only [Finset.mem_union] at h'
    rw [rb_mem] at h h'; rw [rb_mem] at h'; simp at h h'; omega
  · rw [Finset.disjoint_left]; intro x h h'
    rw [rb_mem] at h h'; simp at h h'; omega
theorem ab_slots (c : Dev nD) (f : Buf (Elt F) (abM.view.loc (c : Thread nD τ))) :
    (abM.view.loc (c : Thread nD τ) ↦{fullShare} f : sProp 𝕄) ⊣⊢ iprop(abPts c 0 f ∗ abPts c 1 f ∗ abPts c 2 f) := by
  unfold abPts
  refine pointsTo_three (ℓ := abM.view.loc (c : Thread nD τ)) _ _ _ f fullShare ?_ ?_ ?_
  · ext x; have hx : (x 0).val < 3 := (x 0).isLt
    simp only [Finset.mem_union, Finset.mem_univ, iff_true]
    rw [ab_mem, ab_mem, ab_mem]; simp; omega
  · rw [Finset.disjoint_left]; intro x h h'; simp only [Finset.mem_union] at h'
    rw [ab_mem] at h h'; rw [ab_mem] at h'; simp at h h'; omega
  · rw [Finset.disjoint_left]; intro x h h'
    rw [ab_mem] at h h'; simp at h h'; omega

/-- An array lent to three transfers: the rest of the share and three tokens. -/
theorem lend_three {ℓ : Loc nD τ sig} (f : Buf (Elt F) ℓ) :
    (ℓ ↦{fullShare} f : sProp 𝕄) ⊣⊢ iprop((ℓ ↦{Transfers.shareDrop fullShare 3} f) ∗ (ℓ ↦{lend 0} f) ∗ (ℓ ↦{lend 1} f) ∗ (ℓ ↦{lend 2} f)) := by
  have h := Transfers.pointsTo_toks_range (nD := nD) (τ := τ) (sig := sig) (Ix := Unit) (Val := Elt F) (Name := ℕ) (U := UU) (Lvl := ℕ) (ℓ := ℓ) (S := Finset.univ) (f := f) fullShare 3
  rw [show Finset.range 3 = {0, 1, 2} from by decide, bigSep_insert (by decide), bigSep_insert (by decide), bigSep_singleton] at h
  exact h

/-- The program from the first transfer of the reduction on. -/
def tail (d0 : Dev nD) (v2 v2411 : BitVec 32) : Prog (TpuEff nD τ sig (Elt F) Λ₀ .tc) PUnit := do
  let ⟨v2432, v2443, v2445⟩ : Σ' (v2432 : BitVec 32) (v2443 : BitVec 32), BitVec 32 ← k0_part90 (Memref.whole cc0_stg0_0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 d0 v2 v2411
  let v2453 : BitVec 32 ← k0_part91 (Memref.whole cc0_stg0_0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 d0 v2411 v2443 v2445
  let v2500 : BitVec 32 ← k0_part92 (Memref.whole cc0_stg0_0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 d0 v2 v2432 v2453
  let ⟨v2515, v2530⟩ : Σ' (v2515 : FVec F S256x256 .f32), BitVec 32 ← k0_part93 (Memref.whole cc0_stg0_0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 d0 v2 v2500
  let ⟨v2549, v2568⟩ : Σ' (v2549 : BitVec 32), BitVec 32 ← k0_part94 (Memref.whole cc0_stg0_0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 d0 v2
  let ⟨v2594, v2595, v2596, v2597⟩ : Σ' (v2594 : BitVec 32) (v2595 : BitVec 32) (v2596 : BitVec 1), BitVec 1 ← k0_part95 (Memref.whole cc0_stg0_0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 d0 v2 v2515 v2530 v2568
  let ⟨v2623, v2624, v2625, v2626, v2627⟩ : Σ' (v2623 : BitVec 32) (v2624 : BitVec 32) (v2625 : BitVec 1) (v2626 : BitVec 1), BitVec 1 ← k0_part96 (Memref.whole cc0_stg0_0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 d0 v2 v2549 v2594 v2595 v2596 v2597
  let ⟨v2652, v2653, v2658⟩ : Σ' (v2652 : BitVec 32) (v2653 : BitVec 32), BitVec 1 ← k0_part97 (Memref.whole cc0_stg0_0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 d0 v2 v2568 v2623 v2624 v2625 v2626 v2627
  let v2659 : BitVec 32 := Scalar.addi v2653 v2652
  let v2660 : BitVec 32 := Scalar.select v2658 v2659 v2653
  let c2_2775 : Index := 2#32
  let c0_2776 : Index := 0#32
  let c0_2777 : Index := 0#32
  let v2661 : Vec F S1x256x256 .bf16 ← Prog.lift (.load (Memref.whole cc0_scratch7) (Rect.unit (s := S3x256x256) ![2, 0, 0] S1x256x256.size inb_S3x256x256_S1x256x256_2_0_0).toLoadRect (View.loadsAt_vmem h_S1x256x256))
  have v2662 : FVec F S256x256 .bf16 := shapeCast S256x256 v2661 shapeCasts_S1x256x256_S256x256
  have v2663 : FVec F S256x256 .f32 := extf .f32 v2662 bitsLt_bf16_f32
  let c256_i32_2778 : BitVec 32 := 256#32
  let v2664 : BitVec 32 := Scalar.muli v2660 c256_i32_2778
  let c0_2779 : Index := 0#32
  let c0_2780 : Index := 0#32
  let v2665 : Index := Scalar.indexCast v2664
  let v2666 : Vec F S1x256x256 .f32 ← Prog.lift (.load (Memref.whole cc0_stg1_0) (Rect.unit (s := S1x256x1024) (k0_off6 d0 3#32) S1x256x256.size (k0_off6_inb d0 2)).toLoadRect (View.loadsAt_vmem h_S1x256x256))
  have v2667 : FVec F S256x256 .f32 := shapeCast S256x256 v2666 shapeCasts_S1x256x256_S256x256
  have v2668 : FVec F S1x256x256 .f32 := shapeCast S1x256x256 v2663 shapeCasts_S256x256_S1x256x256
  Prog.lift (.store (Memref.whole cc0_stg1_0) (Rect.unit (s := S1x256x1024) (k0_off6 d0 3#32) S1x256x256.size (k0_off6_inb d0 2)) v2668 Finset.univ (View.stores_vmem_bits_univ h_S1x256x256 rfl) (.inl rfl))
  pure ⟨⟩

/-- What the exchange starts from on device `c`. -/
def exchRes (c : Dev nD) : sProp 𝕄 :=
  iprop((sendRes m K c 0 1 0 ∗ sendRes m K c 0 1 1 ∗ sendRes m K c 0 1 2)
    ∗ (sendRes m K c 2 3 0 ∗ sendRes m K c 2 3 1 ∗ sendRes m K c 2 3 2)
    ∗ (waitRes m K c 0 0 ∗ waitRes m K c 0 1 ∗ waitRes m K c 0 2) ∗ (waitRes m K c 1 0 ∗ waitRes m K c 1 1 ∗ waitRes m K c 1 2)
    ∗ (waitRes m K c 2 0 ∗ waitRes m K c 2 1 ∗ waitRes m K c 2 2) ∗ (waitRes m K c 3 0 ∗ waitRes m K c 3 1 ∗ waitRes m K c 3 2)
    ∗ (cred (tallyAt (xCell c 1 0) () N) ∗ cred (tallyAt (xCell c 1 1) () N) ∗ cred (tallyAt (xCell c 1 2) () N))
    ∗ (cred (tallyAt (xCell c 3 0) () N) ∗ cred (tallyAt (xCell c 3 1) () N) ∗ cred (tallyAt (xCell c 3 2) () N))
    ∗ levAts L lv)

/-- The twelve transfer cells of device `c` at zero. -/
def cellsZero (c : Dev nD) : sProp 𝕄 :=
  iprop((semVal (xCell c 0 0) 0 ∗ semVal (xCell c 0 1) 0 ∗ semVal (xCell c 0 2) 0) ∗ (semVal (xCell c 1 0) 0 ∗ semVal (xCell c 1 1) 0 ∗ semVal (xCell c 1 2) 0)
    ∗ (semVal (xCell c 2 0) 0 ∗ semVal (xCell c 2 1) 0 ∗ semVal (xCell c 2 2) 0) ∗ (semVal (xCell c 3 0) 0 ∗ semVal (xCell c 3 1) 0 ∗ semVal (xCell c 3 2) 0))

/-- What the exchange leaves on device `c`. -/
def exchPost (c : Dev nD) (W : Waits sig Unit) : sProp 𝕄 :=
  iprop(owes (c : Thread nD τ) 0 W ∗ cellsZero c ∗ (rsM.view.loc (c : Thread nD τ) ↦{fullShare} rsSrc m c) ∗ (rbM.view.loc (c : Thread nD τ) ↦{fullShare} rsBuf m c)
    ∗ (agM.view.loc (c : Thread nD τ) ↦{fullShare} agSrc m c) ∗ (abM.view.loc (c : Thread nD τ) ↦{fullShare} agBuf m c)
    ∗ ((Memref.whole cc0_stg1_0).view.loc (c : Thread nD τ) ↦{fullShare} outAt m c))

theorem dev1 (c : Dev nD) : (⟨k0_dev1 c, k0_dev1_lt c⟩ : Dev nD) = pr c 0 := by revert c; decide +kernel
theorem dev2 (c : Dev nD) : (⟨k0_dev2 c, k0_dev2_lt c⟩ : Dev nD) = pr c 1 := by revert c; decide +kernel
theorem dev3 (c : Dev nD) : (⟨k0_dev3 c, k0_dev3_lt c⟩ : Dev nD) = pr c 2 := by revert c; decide +kernel
theorem dev4 (c : Dev nD) : (⟨k0_dev4 c, k0_dev4_lt c⟩ : Dev nD) = pr c 0 := by revert c; decide +kernel
theorem dev5 (c : Dev nD) : (⟨k0_dev5 c, k0_dev5_lt c⟩ : Dev nD) = pr c 1 := by revert c; decide +kernel
theorem dev6 (c : Dev nD) : (⟨k0_dev6 c, k0_dev6_lt c⟩ : Dev nD) = pr c 2 := by revert c; decide +kernel
theorem dev7 (c : Dev nD) : (⟨k0_dev7 c, k0_dev7_lt c⟩ : Dev nD) = pr c 0 := by revert c; decide +kernel
theorem dev8 (c : Dev nD) : (⟨k0_dev8 c, k0_dev8_lt c⟩ : Dev nD) = pr c 1 := by revert c; decide +kernel
theorem dev9 (c : Dev nD) : (⟨k0_dev9 c, k0_dev9_lt c⟩ : Dev nD) = pr c 2 := by revert c; decide +kernel

/-- The lent chunk comes back to the rest of the array at the same share. -/
theorem chunk_back (c : Dev nD) (j : Fin 3) :
    iprop(xPay m c 0 j ∗ (rsM.view.loc (c : Thread nD τ) ↦[Finset.univ \ (chunkM c j).view.set]{lend j} rsSrc m c))
      ⊢ (rsM.view.loc (c : Thread nD τ) ↦{lend j} rsSrc m c : sProp 𝕄) :=
  (pointsTo_split_subset (Finset.subset_univ (chunkM c j).view.set)).2

theorem off4_eq (c : Dev nD) : k0_off4 c = ![0, 256 * c.val] := by revert c; decide +kernel
/-- A load of the device's own chunk. -/
theorem load_own (c : Dev nD) (h : ∀ a, (k0_off4 c) a + S256x256.size a ≤ S256x1024.size a) (f : (cc0_scratch4 : Ref sig .tc).ty.Contents (Elt F)) :
    rsM.view.readAt (Elt F) (Rect.unit (s := S256x1024) (k0_off4 c) S256x256.size h).toLoadRect f = chunk f c := by
  funext i
  refine congrArg f (ext2 ?_ ?_)
  · change (k0_off4 c) 0 + 1 * (i 0).val = (i 0).val
    simp [off4_eq]
  · change (k0_off4 c) 1 + 1 * (i 1).val = 256 * c.val + (i 1).val
    simp [off4_eq]
/-- A load of one slot. -/
theorem load_rb (j : Fin 3) (h : ∀ a, (![j.val, 0, 0] : Fin 3 → ℕ) a + S1x256x256.size a ≤ S3x256x256.size a) (f : (cc0_scratch5 : Ref sig .tc).ty.Contents (Elt F)) :
    rbM.view.readAt (Elt F) (Rect.unit (s := S3x256x256) ![j.val, 0, 0] S1x256x256.size h).toLoadRect f = slot f j := by
  funext i
  have h0 : (i 0).val = 0 := by have : (i 0).val < 1 := (i 0).isLt; omega
  refine congrArg f (Shape.idx3_ext ?_ ?_ ?_)
  · change j.val + 1 * (i 0).val = j.val; omega
  · change 0 + 1 * (i 1).val = (i 1).val; omega
  · change 0 + 1 * (i 2).val = (i 2).val; omega
theorem load_ab (j : Fin 3) (h : ∀ a, (![j.val, 0, 0] : Fin 3 → ℕ) a + S1x256x256.size a ≤ S3x256x256.size a) (f : (cc0_scratch7 : Ref sig .tc).ty.Contents (Elt F)) :
    abM.view.readAt (Elt F) (Rect.unit (s := S3x256x256) ![j.val, 0, 0] S1x256x256.size h).toLoadRect f = slot f j := load_rb j h f

theorem off6_eq (c : Dev nD) (j : Fin 3) : k0_off6 c (BitVec.ofNat 32 (1 + j.val)) = ![0, 0, 256 * ((c.val + 3 - j.val) % 4)] := by revert c j; decide +kernel
instance closedOff_k0_off6_1 (c : Dev nD) : ClosedOff (k0_off6 c 1#32) := ⟨![0, 0, 256 * ((c.val + 3 - 0) % 4)], off6_eq c 0⟩
instance closedOff_k0_off6_2 (c : Dev nD) : ClosedOff (k0_off6 c 2#32) := ⟨![0, 0, 256 * ((c.val + 3 - 1) % 4)], off6_eq c 1⟩
instance closedOff_k0_off6_3 (c : Dev nD) : ClosedOff (k0_off6 c 3#32) := ⟨![0, 0, 256 * ((c.val + 3 - 2) % 4)], off6_eq c 2⟩

/-- A matrix cast to one slab reads at the slab's last two coordinates. -/
theorem cast_in {α : Type} (f : S256x256.Idx → α) (h : S256x256.ShapeCasts S1x256x256) (x : S1x256x256.Idx) :
    shapeCast S1x256x256 f h x = f (ix2 (x 1) (x 2)) := by
  refine congrArg f (Shape.reshapeEquiv_eq_of_rowMajor _ ?_)
  have h0 : (x 0).val = 0 := by have : (x 0).val < 1 := (x 0).isLt; omega
  rw [Shape.rowMajor_val_three, Shape.rowMajor_val_two]
  change (x 1).val * 256 + (x 2).val = ((x 0).val * 256 + (x 1).val) * 256 + (x 2).val
  omega
/-- A slab cast to a matrix. -/
theorem cast_out {α : Type} (f : S1x256x256.Idx → α) (h : S1x256x256.ShapeCasts S256x256) (x : S256x256.Idx) :
    shapeCast S256x256 f h x = f (Fin.cons (⟨0, Nat.one_pos⟩ : Fin 1) x : S1x256x256.Idx) :=
  congrArg f (Shape.reshapeEquiv_cons_one _ _)

/-- The slab of another device's chunk, as the result holds it. -/
theorem piece_ag (c : Dev nD) (j : Fin 3) (x : S1x256x256.Idx) :
    k0_pay44 (slot (agBuf m c) j) x = (extf .f32 (agSrc m (rp c j)) bitsLt_bf16_f32 : FVec F S256x256 .f32) (ix2 (x 1) (x 2)) := by
  unfold k0_pay44
  refine (cast_in _ _ x).trans ?_
  change (extf .f32 (shapeCast S256x256 (slot (agBuf m c) j) shapeCasts_S1x256x256_S256x256) bitsLt_bf16_f32 : FVec F S256x256 .f32) _ = _
  refine congrArg (fun v : FVec F S256x256 .bf16 => (extf .f32 v bitsLt_bf16_f32 : FVec F S256x256 .f32) (ix2 (x 1) (x 2))) (funext fun y => ?_)
  refine (cast_out _ _ y).trans ?_
  exact congrArg (agSrc m (rp c j)) (ext2 rfl rfl)
theorem piece_own (c : Dev nD) (x : S1x256x256.Idx) : k0_pay43 (redOf m c) x = redOf m c (ix2 (x 1) (x 2)) := by
  unfold k0_pay43; exact cast_in _ _ x

/-- What `outAt` holds at a place of chunk `e`. -/
theorem outAt_chunk (c e : Dev nD) (i : S1x256x1024.Idx) (x : S1x256x256.Idx) (h1 : (i 1).val = (x 1).val) (h2 : (i 2).val = 256 * e.val + (x 2).val) :
    outAt m c i = if e = c then redOf m c (ix2 (x 1) (x 2)) else (extf .f32 (agSrc m e) bitsLt_bf16_f32 : FVec F S256x256 .f32) (ix2 (x 1) (x 2)) := by
  have hx : (x 2).val < 256 := (x 2).isLt
  have he : (⟨(i 2).val / 256, by have := (i 2).isLt; simp only [nD]; change (i 2).val < 1024 at this; omega⟩ : Dev nD) = e := Fin.ext (by change (i 2).val / 256 = e.val; omega)
  have hy : (ix2 (i 1) (⟨(i 2).val % 256, Nat.mod_lt _ (by decide)⟩ : Fin 256) : S256x256.Idx) = ix2 (x 1) (x 2) :=
    ext2 h1 (by change (i 2).val % 256 = (x 2).val; omega)
  change (if _ = c then redOf m c _ else (extf .f32 (agSrc m _) bitsLt_bf16_f32 : FVec F S256x256 .f32) _) = _
  rw [he, hy]; rfl

/-- The four stores into the result leave `outAt`. -/
theorem out_stored (c : Dev nD) (o : (cc0_stg1_0 : Ref sig .tc).ty.Contents (Elt F)) (h5 h61 h62 h63) (w5 w61 w62 w63 : S1x256x256.Idx → Elt F .f32)
    (e5 : w5 = k0_pay43 (redOf m c)) (e61 : w61 = k0_pay44 (slot (agBuf m c) 0)) (e62 : w62 = k0_pay44 (slot (agBuf m c) 1)) (e63 : w63 = k0_pay44 (slot (agBuf m c) 2)) :
    (Memref.whole cc0_stg1_0).view.writes (Elt F) o
      [⟨Rect.unit (s := S1x256x1024) (k0_off6 c 3#32) S1x256x256.size h63, w63⟩, ⟨Rect.unit (s := S1x256x1024) (k0_off6 c 2#32) S1x256x256.size h62, w62⟩,
        ⟨Rect.unit (s := S1x256x1024) (k0_off6 c 1#32) S1x256x256.size h61, w61⟩, ⟨Rect.unit (s := S1x256x1024) (k0_off5 c) S1x256x256.size h5, w5⟩] = outAt m c := by
  subst e5 e61 e62 e63
  have o1 := off6_eq c 0
  have o2 := off6_eq c 1
  have o3 := off6_eq c 2
  have o5 := k0_off5_eq c
  have hc : c.val < 4 := c.isLt
  have key : ∀ (j : Fin 3) (h : ∀ a, (k0_off6 c (BitVec.ofNat 32 (1 + j.val))) a + S1x256x256.size a ≤ S1x256x1024.size a) (x : S1x256x256.Idx),
      k0_pay44 (slot (agBuf m c) j) x = outAt m c ((Rect.unit (s := S1x256x1024) (k0_off6 c (BitVec.ofNat 32 (1 + j.val))) S1x256x256.size h).emb x) := by
    intro j h x
    rw [piece_ag, outAt_chunk m c (rp c j) _ x, if_neg (by revert c j; decide)]
    · change (k0_off6 c (BitVec.ofNat 32 (1 + j.val))) 1 + 1 * (x 1).val = (x 1).val
      simp [off6_eq]
    · change (k0_off6 c (BitVec.ofNat 32 (1 + j.val))) 2 + 1 * (x 2).val = 256 * (rp c j).val + (x 2).val
      simp [off6_eq, rp]
  funext i
  refine (congrFun (View.read_whole cc0_stg1_0 _) i).symm.trans ?_
  refine View.read_writes_apply_of_pieces (Memref.whole cc0_stg1_0).view o (outAt m c) _ ?_ i ?_
  · intro p hp x
    simp only [List.mem_cons, List.not_mem_nil, or_false] at hp
    rcases hp with rfl | rfl | rfl | rfl
    · exact key 2 h63 x
    · exact key 1 h62 x
    · exact key 0 h61 x
    · refine (piece_own m c x).trans ?_
      rw [outAt_chunk m c c _ x, if_pos rfl]
      · change (k0_off5 c) 1 + 1 * (x 1).val = (x 1).val
        simp [k0_off5_eq]
      · change (k0_off5 c) 2 + 1 * (x 2).val = 256 * c.val + (x 2).val
        simp [k0_off5_eq]
  · have hi0 : (i 0).val = 0 := by have : (i 0).val < 1 := (i 0).isLt; omega
    have hi1 : (i 1).val < 256 := (i 1).isLt
    have hi2 : (i 2).val < 1024 := (i 2).isLt
    have cov : ∀ (off : Fin 3 → ℕ) (h) (e : ℕ), off = ![0, 0, 256 * e] → (i 2).val / 256 = e → i ∈ (Rect.unit (s := S1x256x1024) off S1x256x256.size h).set := by
      rintro off h e rfl he
      rw [Rect.mem_set_unit]
      intro a
      match a with
      | ⟨0, _⟩ => change 0 ≤ (i 0).val ∧ (i 0).val < 0 + 1; omega
      | ⟨1, _⟩ => change 0 ≤ (i 1).val ∧ (i 1).val < 0 + 256; omega
      | ⟨2, _⟩ => change 256 * e ≤ (i 2).val ∧ (i 2).val < 256 * e + 256; omega
    have hcase : (i 2).val / 256 = c.val ∨ (i 2).val / 256 = (c.val + 3) % 4 ∨ (i 2).val / 256 = (c.val + 2) % 4 ∨ (i 2).val / 256 = (c.val + 1) % 4 := by omega
    rcases hcase with he | he | he | he
    · exact ⟨_, .tail _ (.tail _ (.tail _ (.head _))), cov _ h5 _ o5 he⟩
    · exact ⟨_, .tail _ (.tail _ (.head _)), cov _ h61 _ o1 he⟩
    · exact ⟨_, .tail _ (.head _), cov _ h62 _ o2 he⟩
    · exact ⟨_, .head _, cov _ h63 _ o3 he⟩

theorem out_conv (c : Dev nD) (o : (cc0_stg1_0 : Ref sig .tc).ty.Contents (Elt F)) (h5 h61 h62 h63) (w5 w61 w62 w63 : S1x256x256.Idx → Elt F .f32)
    (e5 : w5 = k0_pay43 (redOf m c)) (e61 : w61 = k0_pay44 (slot (agBuf m c) 0)) (e62 : w62 = k0_pay44 (slot (agBuf m c) 1)) (e63 : w63 = k0_pay44 (slot (agBuf m c) 2)) :
    ((Memref.whole cc0_stg1_0).view.loc (c : Thread nD τ) ↦{fullShare} (Memref.whole cc0_stg1_0).view.writes (Elt F) o
      [⟨Rect.unit (s := S1x256x1024) (k0_off6 c 3#32) S1x256x256.size h63, w63⟩, ⟨Rect.unit (s := S1x256x1024) (k0_off6 c 2#32) S1x256x256.size h62, w62⟩,
        ⟨Rect.unit (s := S1x256x1024) (k0_off6 c 1#32) S1x256x256.size h61, w61⟩, ⟨Rect.unit (s := S1x256x1024) (k0_off5 c) S1x256x256.size h5, w5⟩] : sProp 𝕄)
      ⊢ (Memref.whole cc0_stg1_0).view.loc (c : Thread nD τ) ↦{fullShare} outAt m c :=
  Entails.of_eq (congrArg _ (out_stored m c o h5 h61 h62 h63 w5 w61 w62 w63 e5 e61 e62 e63))

theorem red_load (c : Dev nD) (h : ∀ a, (k0_off4 c) a + S256x256.size a ≤ S256x1024.size a) (h0 h1 h2) :
    k0_pay41 (rsM.view.readAt (Elt F) (Rect.unit (s := S256x1024) (k0_off4 c) S256x256.size h).toLoadRect (rsSrc m c))
      (rbM.view.readAt (Elt F) (Rect.unit (s := S3x256x256) ![0, 0, 0] S1x256x256.size h0).toLoadRect (rsBuf m c))
      (rbM.view.readAt (Elt F) (Rect.unit (s := S3x256x256) ![1, 0, 0] S1x256x256.size h1).toLoadRect (rsBuf m c))
      (rbM.view.readAt (Elt F) (Rect.unit (s := S3x256x256) ![2, 0, 0] S1x256x256.size h2).toLoadRect (rsBuf m c)) = redOf m c :=
  congr (congr (congr (congrArg k0_pay41 (load_own c h _)) (load_rb 0 h0 _)) (load_rb 1 h1 _)) (load_rb 2 h2 _)

theorem ag_set : agM.view.set = Finset.univ := View.set_whole _
theorem ag_lend (c : Dev nD) (j : Fin 3) : (agM.view.loc (c : Thread nD τ) ↦{lend j} agSrc m c : sProp 𝕄) ⊣⊢ agSPay m c j := by
  unfold agSPay; rw [ag_set]

set_option sl_exec.parts true
set_option maxHeartbeats 1000000
theorem wp_tail (c : Dev nD) (v2 v2411 : BitVec 32) (W : Waits sig Unit) (g : Buf (Elt F) (agM.view.loc (c : Thread nD τ)))
    (o : Buf (Elt F) ((Memref.whole cc0_stg1_0).view.loc (c : Thread nD τ))) (Q : PUnit → sProp 𝕄) :
    iprop(exchRes m K c ∗ (barPay (F := F) c 0 ∗ barPay (F := F) c 1 ∗ barPay (F := F) c 2) ∗ owes (c : Thread nD τ) (Ors c) W
        ∗ (rsM.view.loc (c : Thread nD τ) ↦{fullShare} rsSrc m c) ∗ (agM.view.loc (c : Thread nD τ) ↦{fullShare} g)
        ∗ ((Memref.whole cc0_stg1_0).view.loc (c : Thread nD τ) ↦{fullShare} o) ∗ (∀ W', exchPost m c W' -∗ Q ⟨⟩))
      ⊢ wp frame (wpE (defs₀ (F := F)) 𝒱₀ (c : Thread nD τ) none) Set.univ (tail c v2 v2411) Q := by
  unfold exchRes barPay
  iintro ⟨⟨⟨S00, S01, S02⟩, ⟨S20, S21, S22⟩, ⟨W00, W01, W02⟩, ⟨W10, W11, W12⟩, ⟨W20, W21, W22⟩, ⟨W30, W31, W32⟩, ⟨C10, C11, C12⟩, ⟨C30, C31, C32⟩, #Hlev⟩,
    ⟨⟨⟨%f0, R0⟩, ⟨%g0, A0⟩, #X0, #Y0⟩, ⟨⟨%f1, R1⟩, ⟨%g1, A1⟩, #X1, #Y1⟩, ⟨⟨%f2, R2⟩, ⟨%g2, A2⟩, #X2, #Y2⟩⟩, HO, Hrs, Hag, Hout, HQ⟩
  ihave Hrs := (lend_three _).1 $$ Hrs
  icases Hrs with ⟨Hrs, L0, L1, L2⟩
  unfold tail
  sl_exec
  have hO : Ors c = (Oag c + tallyAt (xCell (pr c 2) 1 2) () N + tallyAt (xCell (pr c 1) 1 1) () N) + tallyAt (xCell (pr c 0) 1 0) () N := rfl
  rw [hO]
  iapply (wp_rsSend m K c _ 0 (dev4 c) f0 _ _) $$ [S00 L0 R0 HO]
  · isplitl [S00]; · iexact S00
    isplitr; · iexact X0
    isplitl [L0]; · iexact L0
    isplitl [R0]; · iexact R0
    iexact HO
  iintro ⟨D00, HO, L0⟩
  sl_exec
  iapply (wp_rsSend m K c _ 1 (dev5 c) f1 _ _) $$ [S01 L1 R1 HO]
  · isplitl [S01]; · iexact S01
    isplitr; · iexact X1
    isplitl [L1]; · iexact L1
    isplitl [R1]; · iexact R1
    iexact HO
  iintro ⟨D01, HO, L1⟩
  sl_exec
  iapply (wp_rsSend m K c _ 2 (dev6 c) f2 _ _) $$ [S02 L2 R2 HO]
  · isplitl [S02]; · iexact S02
    isplitr; · iexact X2
    isplitl [L2]; · iexact L2
    isplitl [R2]; · iexact R2
    iexact HO
  iintro ⟨D02, HO, L2⟩
  sl_exec
  iapply (wp_xWait m K c 0 0 (N_chunk c 0) ((above_Oag c).mono (by decide)) _) $$ [W00 D00 HO]
  · isplitl [W00]; · iexact W00
    isplitl [D00]; · iexact D00
    isplitr; · iexact Hlev
    iexact HO
  iintro ⟨HO, Z00, P00⟩
  ihave L0 := (chunk_back m c 0) $$ [P00 L0]
  · isplitl [P00]; · iexact P00
    iexact L0
  sl_exec
  iapply (wp_xWait m K c 1 0 (N_slot 0) ((above_Oag c).mono (by decide)) _) $$ [W10 C10 HO]
  · isplitl [W10]; · iexact W10
    isplitl [C10]; · iexact C10
    isplitr; · iexact Hlev
    iexact HO
  iintro ⟨HO, Z10, P10⟩
  sl_exec
  iapply (wp_xWait m K c 0 1 (N_chunk c 1) ((above_Oag c).mono (by decide)) _) $$ [W01 D01 HO]
  · isplitl [W01]; · iexact W01
    isplitl [D01]; · iexact D01
    isplitr; · iexact Hlev
    iexact HO
  iintro ⟨HO, Z01, P01⟩
  ihave L1 := (chunk_back m c 1) $$ [P01 L1]
  · isplitl [P01]; · iexact P01
    iexact L1
  sl_exec
  iapply (wp_xWait m K c 1 1 (N_slot 1) ((above_Oag c).mono (by decide)) _) $$ [W11 C11 HO]
  · isplitl [W11]; · iexact W11
    isplitl [C11]; · iexact C11
    isplitr; · iexact Hlev
    iexact HO
  iintro ⟨HO, Z11, P11⟩
  sl_exec
  iapply (wp_xWait m K c 0 2 (N_chunk c 2) ((above_Oag c).mono (by decide)) _) $$ [W02 D02 HO]
  · isplitl [W02]; · iexact W02
    isplitl [D02]; · iexact D02
    isplitr; · iexact Hlev
    iexact HO
  iintro ⟨HO, Z02, P02⟩
  ihave L2 := (chunk_back m c 2) $$ [P02 L2]
  · isplitl [P02]; · iexact P02
    iexact L2
  sl_exec
  iapply (wp_xWait m K c 1 2 (N_slot 2) ((above_Oag c).mono (by decide)) _) $$ [W12 C12 HO]
  · isplitl [W12]; · iexact W12
    isplitl [C12]; · iexact C12
    isplitr; · iexact Hlev
    iexact HO
  iintro ⟨HO, Z12, P12⟩
  ihave Hrs := (lend_three _).2 $$ [Hrs L0 L1 L2]
  · isplitl [Hrs]; · iexact Hrs
    isplitl [L0]; · iexact L0
    isplitl [L1]; · iexact L1
    iexact L2
  ihave Hrb := (rb_slots c (rsBuf m c)).2 $$ [P10 P11 P12]
  · unfold xPay rsRPay
    isplitl [P10]; · iexact P10
    isplitl [P11]; · iexact P11
    iexact P12
  sl_exec
  have hag : agM.view.writes (Elt F) g (wp_tail.sl.Hag_1 m c) = agSrc m c := by
    unfold wp_tail.sl.Hag_1
    refine (View.read_writes_full agM.view g _ _ []).trans ?_
    rw [load_own c]
    exact congr (congr (congrArg (k0_pay42 _) (load_rb 0 _ _)) (load_rb 1 _ _)) (load_rb 2 _ _)
  rw [hag]
  ihave Hag := (lend_three _).1 $$ Hag
  icases Hag with ⟨Hag, G0, G1, G2⟩
  have hO' : Oag c = ((0 + tallyAt (xCell (pr c 2) 3 2) () N) + tallyAt (xCell (pr c 1) 3 1) () N) + tallyAt (xCell (pr c 0) 3 0) () N := by
    rw [zero_add]; rfl
  rw [hO']
  iapply (wp_agSend m K c _ 0 (dev7 c) g0 _ _) $$ [S20 G0 A0 HO]
  · isplitl [S20]; · iexact S20
    isplitr; · iexact Y0
    isplitl [G0]; · iapply (ag_lend m c _).1; iexact G0
    isplitl [A0]; · iexact A0
    iexact HO
  iintro ⟨D20, HO⟩
  sl_exec
  iapply (wp_agSend m K c _ 1 (dev8 c) g1 _ _) $$ [S21 G1 A1 HO]
  · isplitl [S21]; · iexact S21
    isplitr; · iexact Y1
    isplitl [G1]; · iapply (ag_lend m c _).1; iexact G1
    isplitl [A1]; · iexact A1
    iexact HO
  iintro ⟨D21, HO⟩
  sl_exec
  iapply (wp_agSend m K c _ 2 (dev9 c) g2 _ _) $$ [S22 G2 A2 HO]
  · isplitl [S22]; · iexact S22
    isplitr; · iexact Y2
    isplitl [G2]; · iapply (ag_lend m c _).1; iexact G2
    isplitl [A2]; · iexact A2
    iexact HO
  iintro ⟨D22, HO⟩
  sl_exec
  iapply (wp_xWait m K c 2 0 N_ag (above_zero _) _) $$ [W20 D20 HO]
  · isplitl [W20]; · iexact W20
    isplitl [D20]; · iexact D20
    isplitr; · iexact Hlev
    iexact HO
  iintro ⟨HO, Z20, P20⟩
  sl_exec
  iapply (wp_xWait m K c 3 0 (N_slotA 0) (above_zero _) _) $$ [W30 C30 HO]
  · isplitl [W30]; · iexact W30
    isplitl [C30]; · iexact C30
    isplitr; · iexact Hlev
    iexact HO
  iintro ⟨HO, Z30, P30⟩
  unfold xPay
  unfold agRPay abPts
  sl_exec
  iapply (wp_xWait m K c 2 1 N_ag (above_zero _) _) $$ [W21 D21 HO]
  · isplitl [W21]; · iexact W21
    isplitl [D21]; · iexact D21
    isplitr; · iexact Hlev
    iexact HO
  iintro ⟨HO, Z21, P21⟩
  sl_exec
  iapply (wp_xWait m K c 3 1 (N_slotA 1) (above_zero _) _) $$ [W31 C31 HO]
  · isplitl [W31]; · iexact W31
    isplitl [C31]; · iexact C31
    isplitr; · iexact Hlev
    iexact HO
  iintro ⟨HO, Z31, P31⟩
  unfold xPay
  unfold agRPay abPts
  sl_exec
  iapply (wp_xWait m K c 2 2 N_ag (above_zero _) _) $$ [W22 D22 HO]
  · isplitl [W22]; · iexact W22
    isplitl [D22]; · iexact D22
    isplitr; · iexact Hlev
    iexact HO
  iintro ⟨HO, Z22, P22⟩
  sl_exec
  iapply (wp_xWait m K c 3 2 (N_slotA 2) (above_zero _) _) $$ [W32 C32 HO]
  · isplitl [W32]; · iexact W32
    isplitl [C32]; · iexact C32
    isplitr; · iexact Hlev
    iexact HO
  iintro ⟨HO, Z32, P32⟩
  unfold xPay
  unfold agRPay abPts
  sl_exec
  have e5 : wp_tail.sl.v2581 m c = k0_pay43 (redOf m c) := congrArg k0_pay43 (red_load m c _ _ _ _)
  have e63 : wp_tail.sl.v2668 m c = k0_pay44 (slot (agBuf m c) 2) := congrArg k0_pay44 (load_ab 2 _ _)
  have e62 : k0_pay45 (abM.view.readAt (Elt F) (Rect.unit (s := S3x256x256) ![1, 0, 0] S1x256x256.size inb_S3x256x256_S1x256x256_1_0_0).toLoadRect (agBuf m c)) = k0_pay44 (slot (agBuf m c) 1) :=
    congrArg k0_pay44 (load_ab 1 _ _)
  have e61 : k0_pay44 (abM.view.readAt (Elt F) (Rect.unit (s := S3x256x256) ![0, 0, 0] S1x256x256.size inb_S3x256x256_S1x256x256_0_0_0).toLoadRect (agBuf m c)) = k0_pay44 (slot (agBuf m c) 0) :=
    congrArg k0_pay44 (load_ab 0 _ _)
  ihave Hout := (out_conv m c o _ _ _ _ _ _ _ _ e5 e61 e62 e63) $$ Hout
  ihave Hag := (lend_three _).2 $$ [Hag P20 P21 P22]
  · isplitl [Hag]; · iexact Hag
    isplitl [P20]; · iapply (ag_lend m c 0).2; iexact P20
    isplitl [P21]; · iapply (ag_lend m c 1).2; iexact P21
    iapply (ag_lend m c 2).2; iexact P22
  ihave Hab := (ab_slots c (agBuf m c)).2 $$ [P30 P31 P32]
  · unfold abPts
    isplitl [P30]; · iexact P30
    isplitl [P31]; · iexact P31
    iexact P32
  rw [wp_ret]; imodintro
  iapply HQ
  unfold exchPost cellsZero
  isplitl [HO]; · iexact HO
  isplitl [Z00 Z01 Z02 Z10 Z11 Z12 Z20 Z21 Z22 Z30 Z31 Z32]
  · isplitl [Z00 Z01 Z02]
    · isplitl [Z00]; · iexact Z00
      isplitl [Z01]; · iexact Z01
      iexact Z02
    isplitl [Z10 Z11 Z12]
    · isplitl [Z10]; · iexact Z10
      isplitl [Z11]; · iexact Z11
      iexact Z12
    isplitl [Z20 Z21 Z22]
    · isplitl [Z20]; · iexact Z20
      isplitl [Z21]; · iexact Z21
      iexact Z22
    isplitl [Z30]; · iexact Z30
    isplitl [Z31]; · iexact Z31
    iexact Z32
  isplitl [Hrs]; · iexact Hrs
  isplitl [Hrb]; · iexact Hrb
  isplitl [Hag]; · iexact Hag
  isplitl [Hab]; · iexact Hab
  iexact Hout

end Cert.KernelIdeal.P
-- ==== Proof.Res.lean ====
/-
  What one device holds before and after its program, and the right to wait on the cells of its local transfers.
-/
module

public import proofs.«01_k».proof.Proof.Exch

@[expose] public section

set_option maxRecDepth 16384

noncomputable section

namespace Cert.KernelIdeal.P

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (K : CellIx → ℕ)

/-- What device `c` needs for the barrier: to signal its three peers, and to wait on its own cell. -/
def barRes (c : Dev nD) : sProp 𝕄 :=
  iprop((sigRes m K c 0 2 ∗ sigRes m K c 1 1 ∗ sigRes m K c 2 0)
    ∗ cellInv ER (Rd m) (K (c, none)) (barCell c) ∗ atPos ER (barCell c) 0 ∅ 0 ∗ cred (tallyAt (barCell c) () 3))

/-- The arrays left in the device's large memory. -/
def hbmRes (c : Dev nD) : sProp 𝕄 :=
  iprop(((Memref.whole main_arg1).view.loc (c : Thread nD τ) ↦{fullShare} m ((c : Thread nD τ).loc main_arg1))
    ∗ ((Memref.whole main_arg2).view.loc (c : Thread nD τ) ↦{Transfers.shareTokN fullShare 4} m ((c : Thread nD τ).loc main_arg2))
    ∗ ((Memref.whole main_arg2).view.loc (c : Thread nD τ) ↦{Transfers.shareTokN fullShare 5} m ((c : Thread nD τ).loc main_arg2))
    ∗ ((Memref.whole main_arg2).view.loc (c : Thread nD τ) ↦{Transfers.shareTokN fullShare 6} m ((c : Thread nD τ).loc main_arg2))
    ∗ ((Memref.whole main_arg3).view.loc (c : Thread nD τ) ↦{Transfers.shareTokN fullShare 7} m ((c : Thread nD τ).loc main_arg3))
    ∗ ((Memref.whole main_arg3).view.loc (c : Thread nD τ) ↦{Transfers.shareTokN fullShare 8} m ((c : Thread nD τ).loc main_arg3))
    ∗ ((Memref.whole main_arg3).view.loc (c : Thread nD τ) ↦{Transfers.shareTokN fullShare 9} m ((c : Thread nD τ).loc main_arg3))
    ∗ ((Memref.whole main_arg4).view.loc (c : Thread nD τ) ↦{fullShare} m ((c : Thread nD τ).loc main_arg4)))

/-- The eight cells of the local transfers at zero. -/
def loadZero (c : Dev nD) : sProp 𝕄 :=
  iprop(semVal ((c : Thread nD τ), SemLoc.dma (2 : DmaSem sig)) 0 ∗ semVal ((c : Thread nD τ), SemLoc.dma (3 : DmaSem sig)) 0
    ∗ semVal ((c : Thread nD τ), SemLoc.dma (4 : DmaSem sig)) 0 ∗ semVal ((c : Thread nD τ), SemLoc.dma (5 : DmaSem sig)) 0
    ∗ semVal ((c : Thread nD τ), SemLoc.dma (6 : DmaSem sig)) 0 ∗ semVal ((c : Thread nD τ), SemLoc.dma (7 : DmaSem sig)) 0
    ∗ semVal ((c : Thread nD τ), SemLoc.dma (8 : DmaSem sig)) 0 ∗ semVal ((c : Thread nD τ), SemLoc.dma (9 : DmaSem sig)) 0)

/-- The four buffers the local transfers fill, at any contents. -/
def loadBufs (c : Dev nD) : sProp 𝕄 :=
  iprop((∃ f, (Memref.whole cc0_scratch0).view.loc (c : Thread nD τ) ↦{fullShare} f) ∗ (∃ f, (Memref.whole cc0_scratch1).view.loc (c : Thread nD τ) ↦{fullShare} f)
    ∗ (∃ f, (Memref.whole cc0_scratch2).view.loc (c : Thread nD τ) ↦{fullShare} f) ∗ (∃ f, (Memref.whole cc0_scratch3).view.loc (c : Thread nD τ) ↦{fullShare} f))

/-- The four buffers of the exchange, at any contents. -/
def exchBufs (c : Dev nD) : sProp 𝕄 :=
  iprop((∃ f, rsM.view.loc (c : Thread nD τ) ↦{fullShare} f) ∗ (∃ f, rbM.view.loc (c : Thread nD τ) ↦{fullShare} f)
    ∗ (∃ f, agM.view.loc (c : Thread nD τ) ↦{fullShare} f) ∗ (∃ f, abM.view.loc (c : Thread nD τ) ↦{fullShare} f))

theorem loadWait (c : Dev nD) (q : DmaSem sig) (h : lvS (.dma q) ≤ 1) : (levAts L lv : sProp 𝕄) ⊢ MayWait (c : Thread nD τ) (SemLoc.dma q) () (Ors c) :=
  mayWait_of_above c (.dma q) 1 h (above_Ors c)

end Cert.KernelIdeal.P
-- ==== Proof.Ghost.lean ====
/-
  The launch's ghost state: the cells and the tokens minted, dealt to the devices that pay them, and the launch credit.
-/
module

public import proofs.«01_k».proof.Proof.Res
public import Idealize.ShloMosaic.Lib.Pipeline.CollectiveSegs

@[expose] public section

set_option maxRecDepth 16384

noncomputable section

namespace Cert.KernelIdeal.P

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
abbrev Kj : Type := Fin 4 × Fin 3

theorem kcell_injective : Function.Injective (kcell : CellIx → GSem nD τ sig) := by
  rintro ⟨c, k⟩ ⟨c', k'⟩ h
  have h1 : c = c' := by have := congrArg (fun g : GSem nD τ sig => g.1.1) h; exact this
  subst h1
  have h2 : csem k = csem k' := congrArg Prod.snd h
  have : ∀ k k' : Option Kj, csem k = csem k' → k = k' := by decide +kernel
  rw [this k k' h2]
def exCells : Finset (GSem nD τ sig) := Finset.univ.map ⟨kcell, kcell_injective⟩

/-- The duty tokens minted on a device's own cells: three on its barrier cell, one on each transfer cell. -/
abbrev TokIx : Type := Fin 3 ⊕ Kj
abbrev tokSem : TokIx → SemLoc sig × Fin 3 := fun | .inl j => (.reg barS, j) | .inr kj => (.dma (xS kj.1 kj.2), 0)
abbrev tokOf (ci : Dev nD × TokIx) : GSem nD τ sig × ℕ × Fin 3 := (((ci.1 : Thread nD τ), (tokSem ci.2).1), 0, (tokSem ci.2).2)
theorem tokOf_injective : Function.Injective (tokOf : Dev nD × TokIx → GSem nD τ sig × ℕ × Fin 3) := by
  rintro ⟨c, i⟩ ⟨c', i'⟩ h
  have h1 : c = c' := by have := congrArg (fun x : GSem nD τ sig × ℕ × Fin 3 => x.1.1.1) h; exact this
  subst h1
  have h2 : tokSem i = tokSem i' := congrArg (fun x : GSem nD τ sig × ℕ × Fin 3 => (x.1.2, x.2.2)) h
  have : ∀ i i' : TokIx, tokSem i = tokSem i' → i = i' := by decide +kernel
  rw [this i i' h2]
def exToks : Finset (GSem nD τ sig × ℕ × Fin 3) := Finset.univ.map ⟨tokOf, tokOf_injective⟩

def u₀ : UU :=
  (initOf (Pipeline.cells cfgs cellOf_inj) (Pipeline.launchToks cfgs cellOf_inj), (initOf exCells exToks, 1))

/-- The duty tokens of device `c`'s own cells. -/
def toks (c : Dev nD) : sProp 𝕄 :=
  iprop((bigSep Finset.univ fun j : Fin 3 => dutyTok ER (barCell c) 0 j) ∗ (bigSep Finset.univ fun kj : Kj => dutyTok ER (xCell c kj.1 kj.2) 0 0))

/-- What the launch element deals device `c`. -/
def G (c : Dev nD) : sProp 𝕄 :=
  iprop((bigSep Finset.univ fun k : Option Kj => roundState ER (Rd m) (kcell (c, k)) 0)
    ∗ (bigSep Finset.univ fun k : Option Kj => iprop(atPos ER (kcell (c, k)) 0 ∅ 0 ∗ reached ER (kcell (c, k)) 0)) ∗ toks (F := F) c)

theorem bigSep_opt (Φ : Option Kj → sProp 𝕄) : bigSep Finset.univ Φ =
      iprop(Φ none ∗ Φ (some (0, 0)) ∗ Φ (some (0, 1)) ∗ Φ (some (0, 2)) ∗ Φ (some (1, 0)) ∗ Φ (some (1, 1)) ∗ Φ (some (1, 2)) ∗ Φ (some (2, 0)) ∗ Φ (some (2, 1)) ∗ Φ (some (2, 2)) ∗ Φ (some (3, 0)) ∗ Φ (some (3, 1)) ∗ Φ (some (3, 2))) :=
  bigSep_univ_eq_bigSepL [none, some (0, 0), some (0, 1), some (0, 2), some (1, 0), some (1, 1), some (1, 2), some (2, 0), some (2, 1), some (2, 2), some (3, 0), some (3, 1), some (3, 2)] (by decide) (by decide) Φ
theorem bigSep_kj (Φ : Kj → sProp 𝕄) : bigSep Finset.univ Φ =
      iprop(Φ (0, 0) ∗ Φ (0, 1) ∗ Φ (0, 2) ∗ Φ (1, 0) ∗ Φ (1, 1) ∗ Φ (1, 2) ∗ Φ (2, 0) ∗ Φ (2, 1) ∗ Φ (2, 2) ∗ Φ (3, 0) ∗ Φ (3, 1) ∗ Φ (3, 2)) :=
  bigSep_univ_eq_bigSepL [(0, 0), (0, 1), (0, 2), (1, 0), (1, 1), (1, 2), (2, 0), (2, 1), (2, 2), (3, 0), (3, 1), (3, 2)] (by decide) (by decide) Φ
theorem bigSep_three (Φ : Fin 3 → sProp 𝕄) : bigSep Finset.univ Φ = iprop(Φ 0 ∗ Φ 1 ∗ Φ 2) := bigSep_univ_eq_bigSepL [0, 1, 2] (by decide) (by decide) Φ

theorem fund_ex : BI.own (ER (initOf exCells exToks)) ⊢ (|==> bigSep Finset.univ (G m) : sProp 𝕄) := by
  have hX (Φ : GSem nD τ sig → sProp 𝕄) : bigSep exCells Φ = bigSep Finset.univ fun c : Dev nD => bigSep Finset.univ fun k : Option Kj => Φ (kcell (c, k)) := by
    unfold exCells; rw [bigSep_map, bigSep_univ_prod]; rfl
  have hT : bigSep exToks (fun x => (dutyTok ER x.1 x.2.1 x.2.2 : sProp 𝕄)) = bigSep Finset.univ fun c : Dev nD => toks (F := F) c := by
    unfold exToks; rw [bigSep_map, bigSep_univ_prod]
    exact bigSep_congr fun c _ => by unfold toks; rw [bigSep_univ_sum]; rfl
  iintro HX
  imod (Rounds.fund ER (Rd m) exCells exToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The semaphores of the program itself: eight of the local transfers, twelve of the exchange. -/
abbrev osem : Fin 20 → SemLoc sig := fun k => .dma ⟨2 + k.val, by have := k.isLt; show _ < 22; omega⟩
theorem ownSemFacts : Pipeline.OwnSemFacts cfg0.spec osem := by decide

theorem ownSems0_eq (c : Dev nD) : (Pipeline.ownSems0 (Ix := Unit) (Name := ℕ) (U := UU) (Lvl := ℕ) (Val := Elt F) (τ := τ) osem c : sProp 𝕄)
    = iprop(semVal ((c : Thread nD τ), osem 0) 0 ∗ semVal ((c : Thread nD τ), osem 1) 0 ∗ semVal ((c : Thread nD τ), osem 2) 0 ∗ semVal ((c : Thread nD τ), osem 3) 0 ∗ semVal ((c : Thread nD τ), osem 4) 0 ∗ semVal ((c : Thread nD τ), osem 5) 0 ∗ semVal ((c : Thread nD τ), osem 6) 0 ∗ semVal ((c : Thread nD τ), osem 7) 0 ∗ semVal ((c : Thread nD τ), osem 8) 0 ∗ semVal ((c : Thread nD τ), osem 9) 0 ∗ semVal ((c : Thread nD τ), osem 10) 0 ∗ semVal ((c : Thread nD τ), osem 11) 0 ∗ semVal ((c : Thread nD τ), osem 12) 0 ∗ semVal ((c : Thread nD τ), osem 13) 0 ∗ semVal ((c : Thread nD τ), osem 14) 0 ∗ semVal ((c : Thread nD τ), osem 15) 0 ∗ semVal ((c : Thread nD τ), osem 16) 0 ∗ semVal ((c : Thread nD τ), osem 17) 0 ∗ semVal ((c : Thread nD τ), osem 18) 0 ∗ semVal ((c : Thread nD τ), osem 19) 0) :=
  Pipeline.ownSems0_eq_of_list c osem [0, 1, 2, 3, 4, 5, 6, 7, 8, 9, 10, 11, 12, 13, 14, 15, 16, 17, 18, 19] (by decide) (by decide)
theorem unscopedSems0_eq (c : Dev nD) : (unscopedSems0 c : sProp 𝕄) = semVal (barCell c) 0 := by
  unfold unscopedSems0; rw [bigSep_eq_bigSepL_of_eq [SemLoc.reg barS] (by decide) (by decide)]; rfl

/-- The program's semaphores at zero are the local transfers' and the exchange's. -/
theorem ownSems0_split (c : Dev nD) :
    (Pipeline.ownSems0 (Ix := Unit) (Name := ℕ) (U := UU) (Lvl := ℕ) (Val := Elt F) (τ := τ) osem c : sProp 𝕄) ⊣⊢ iprop(loadZero (F := F) c ∗ cellsZero (F := F) c) := by
  rw [ownSems0_eq]
  unfold loadZero cellsZero
  constructor
  · iintro ⟨A0, A1, A2, A3, A4, A5, A6, A7, B0, B1, B2, B3, B4, B5, B6, B7, B8, B9, B10, B11⟩
    isplitl [A0 A1 A2 A3 A4 A5 A6 A7]
    · isplitl [A0]; · iexact A0
      isplitl [A1]; · iexact A1
      isplitl [A2]; · iexact A2
      isplitl [A3]; · iexact A3
      isplitl [A4]; · iexact A4
      isplitl [A5]; · iexact A5
      isplitl [A6]; · iexact A6
      iexact A7
    isplitl [B0 B1 B2]
    · isplitl [B0]; · iexact B0
      isplitl [B1]; · iexact B1
      iexact B2
    isplitl [B3 B4 B5]
    · isplitl [B3]; · iexact B3
      isplitl [B4]; · iexact B4
      iexact B5
    isplitl [B6 B7 B8]
    · isplitl [B6]; · iexact B6
      isplitl [B7]; · iexact B7
      iexact B8
    isplitl [B9]; · iexact B9
    isplitl [B10]; · iexact B10
    iexact B11
  · iintro ⟨⟨A0, A1, A2, A3, A4, A5, A6, A7⟩, ⟨B0, B1, B2⟩, ⟨B3, B4, B5⟩, ⟨B6, B7, B8⟩, B9, B10, B11⟩
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    iexact B11

theorem sems_cells (c : Dev nD) :
    iprop(cellsZero (F := F) c ∗ semVal (barCell c) 0) ⊢ (bigSep Finset.univ fun k : Option Kj => semVal (kcell (c, k)) 0 : sProp 𝕄) := by
  rw [bigSep_opt]
  unfold cellsZero
  iintro ⟨⟨⟨B0, B1, B2⟩, ⟨B3, B4, B5⟩, ⟨B6, B7, B8⟩, B9, B10, B11⟩, HB⟩
  isplitl [HB]; · iexact HB
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexact B9
  isplitl [B10]; · iexact B10
  iexact B11

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks (F := F) c ∗ loadZero (F := F) c) := by
  unfold G
  rw [unscopedSems0_eq]
  iintro ⟨Hos, Hus, Hst, Hat, Htok⟩
  ihave Hos := (ownSems0_split (F := F) c).1 $$ Hos
  icases Hos with ⟨HL, HX⟩
  ihave Hv := (sems_cells (F := F) c) $$ [HX Hus]
  · isplitl [HX] <;> iassumption
  imod (show iprop((bigSep Finset.univ fun k : Option Kj => semVal (kcell (c, k)) 0) ∗ bigSep Finset.univ fun k : Option Kj => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact HL

/-- What every device knows: all the cells' invariants, and that each has reached round 0. -/
def records (K : CellIx → ℕ) : sProp 𝕄 :=
  iprop((bigSep Finset.univ fun ck : CellIx => cellInv ER (Rd m) (K ck) (kcell ck)) ∗ bigSep Finset.univ fun ck : CellIx => reached ER (kcell ck) 0)

instance records_persistent (K : CellIx → ℕ) : BI.Persistent (records m K) := by unfold records; infer_instance

theorem inv_at (K : CellIx → ℕ) (ck : CellIx) : records m K ⊢ cellInv ER (Rd m) (K ck) (kcell ck) := by
  unfold records; exact (BI.sep_and.trans BI.and_elimL).trans (bigSep_elim (Finset.mem_univ ck))
theorem reached_at (K : CellIx → ℕ) (ck : CellIx) : records m K ⊢ reached ER (kcell ck) 0 := by
  unfold records; exact (BI.sep_and.trans BI.and_elimR).trans (bigSep_elim (Finset.mem_univ ck))

/-- The device whose transfer cell of kind `k` the device `c` pays: its own for a departure, its peer's for an arrival. -/
def tgt (c : Dev nD) (kj : Kj) : Dev nD := if kj.1 = 1 ∨ kj.1 = 3 then pr c kj.2 else c
/-- The remaining distance. -/
def rest (j : Fin 3) : Fin 3 := ⟨2 - j.val, by omega⟩

/-- The tokens of the duties that device `c` pays. -/
def payToks (c : Dev nD) : sProp 𝕄 :=
  iprop((bigSep Finset.univ fun j : Fin 3 => dutyTok ER (barCell (pr c j)) 0 (rest j)) ∗ (bigSep Finset.univ fun kj : Kj => dutyTok ER (xCell (tgt c kj) kj.1 kj.2) 0 0))
def linear (c : Dev nD) : sProp 𝕄 :=
  iprop((bigSep Finset.univ fun k : Option Kj => atPos ER (kcell (c, k)) 0 ∅ 0) ∗ payToks (F := F) c ∗ loadZero (F := F) c)

def barEquiv : Dev nD × Fin 3 ≃ Dev nD × Fin 3 where
  toFun p := (pr p.1 p.2, rest p.2)
  invFun p := (pr p.1 p.2, rest p.2)
  left_inv p := by revert p; decide +kernel
  right_inv p := by revert p; decide +kernel
def xEquiv : Dev nD × Kj ≃ Dev nD × Kj where
  toFun p := (tgt p.1 p.2, p.2)
  invFun p := (if p.2.1 = 1 ∨ p.2.1 = 3 then rp p.1 p.2.2 else p.1, p.2)
  left_inv p := by revert p; decide +kernel
  right_inv p := by revert p; decide +kernel

/-- The tokens minted on the devices' own cells are the tokens the devices pay. -/
theorem toks_around : (bigSep Finset.univ fun c : Dev nD => (toks (F := F) c : sProp 𝕄)) = bigSep Finset.univ fun c : Dev nD => payToks (F := F) c := by
  unfold toks payToks
  rw [bigSep_sep', bigSep_sep', ← bigSep_univ_prod (fun p : Dev nD × Fin 3 => (dutyTok ER (barCell p.1) 0 p.2 : sProp 𝕄)),
    ← bigSep_univ_prod (fun p : Dev nD × Kj => (dutyTok ER (xCell p.1 p.2.1 p.2.2) 0 0 : sProp 𝕄)),
    bigSep_univ_equiv barEquiv (fun p : Dev nD × Fin 3 => (dutyTok ER (barCell p.1) 0 p.2 : sProp 𝕄)),
    bigSep_univ_equiv xEquiv (fun p : Dev nD × Kj => (dutyTok ER (xCell p.1 p.2.1 p.2.2) 0 0 : sProp 𝕄)),
    bigSep_univ_prod, bigSep_univ_prod]
  rfl

/-- What the global step makes of the launch. -/
def G' (c : Dev nD) : sProp 𝕄 := iprop(∃ K, records m K ∗ linear (F := F) c)

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks (F := F) c ∗ loadZero (F := F) c) : sProp 𝕄)
      ⊢ bigSep Finset.univ (G' m) := by
  rw [bigSep_sep', bigSep_sep', bigSep_sep', ← bigSep_univ_prod (fun ck : CellIx => iprop(∃ κ : ℕ, cellInv ER (Rd m) κ (kcell ck))),
    bigSep_congr (s := Finset.univ) (fun (c : Dev nD) _ => bigSep_sep' Finset.univ (fun k : Option Kj => (atPos ER (kcell (c, k)) 0 ∅ 0 : sProp 𝕄)) (fun k => reached ER (kcell (c, k)) 0)),
    bigSep_sep', ← bigSep_univ_prod (fun ck : CellIx => (reached ER (kcell ck) 0 : sProp 𝕄)), toks_around]
  iintro ⟨HI, ⟨Hat, #HR⟩, Htok, HL⟩
  ihave HK := (BI.bigSep_exists_pi Finset.univ (fun (ck : CellIx) (κ : ℕ) => (cellInv ER (Rd m) κ (kcell ck) : sProp 𝕄))) $$ HI
  icases HK with ⟨%K, #HI⟩
  iapply (bigSep_with_persistent (R := records m K) (Φ := linear (F := F)) fun c _ => by
    unfold G'; iintro ⟨#HR, H⟩; iexists K; isplitr; · iexact HR
    iexact H)
  isplitr
  · unfold records; isplitl; · iexact HI
    iexact HR
  · unfold linear; rw [bigSep_sep', bigSep_sep']
    isplitl [Hat]; · iexact Hat
    isplitl [Htok]; · iexact Htok
    iexact HL

/-- The global step: the semaphores of every device at once become the exchange's cells. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

theorem bigSepL_seven {I : Type} (a b c d e f g : I) (Φ : I → sProp 𝕄) :
    bigSepL [a, b, c, d, e, f, g] Φ = iprop(Φ a ∗ Φ b ∗ Φ c ∗ Φ d ∗ Φ e ∗ Φ f ∗ Φ g) := rfl

/-- The credit of one unit from each peer on the barrier cell, of one transfer on each arrival cell. -/
def creds (c : Dev nD) : sProp 𝕄 :=
  iprop(cred (tallyAt (barCell c) () 3) ∗ (cred (tallyAt (xCell c 1 0) () N) ∗ cred (tallyAt (xCell c 1 1) () N) ∗ cred (tallyAt (xCell c 1 2) () N))
    ∗ (cred (tallyAt (xCell c 3 0) () N) ∗ cred (tallyAt (xCell c 3 1) () N) ∗ cred (tallyAt (xCell c 3 2) () N)))

theorem tally_tc (a b : Dev nD) (s s' : SemLoc sig) (n : ℕ) :
    (tallyAt ((a : Thread nD τ), s) () n : CellTallies nD τ sig Unit) ((b : Thread nD τ), s') () = if b = a ∧ s' = s then n else 0 := by
  rw [tallyAt_apply]
  refine if_congr ⟨fun h => ⟨congrArg (fun g : GSem nD τ sig => g.1.1) h.1, congrArg Prod.snd h.1⟩, fun h => ⟨by rw [h.1, h.2], rfl⟩⟩ rfl rfl

/-- What the devices owe device `c`'s cell `s` altogether. -/
def dueN (s : SemLoc sig) : ℕ := if s = .reg barS then 3 else if ∃ j : Fin 3, s = .dma (xS 1 j) ∨ s = .dma (xS 3 j) then N else 0

theorem sum_pr (c : Dev nD) (j : Fin 3) (P : Prop) [Decidable P] (n : ℕ) : (∑ d : Dev nD, if c = pr d j ∧ P then n else 0) = if P then n else 0 := by
  by_cases hP : P
  · simp only [hP, and_true, if_true]
    rw [Finset.sum_congr rfl fun d _ => if_congr (show c = pr d j ↔ d = rp c j from ⟨fun h => by rw [h, rp_pr], fun h => by rw [h, pr_rp]⟩) rfl rfl,
      Finset.sum_ite_eq' Finset.univ (rp c j) fun _ => n, if_pos (Finset.mem_univ _)]
  · simp [hP]

theorem owed_sum (c : Dev nD) (s : SemLoc sig) : (∑ d : Dev nD, O₀ d ((c : Thread nD τ), s) ()) =
    ((((((((if s = .dma (xS 3 2) then N else 0) + (if s = .dma (xS 3 1) then N else 0)) + (if s = .dma (xS 3 0) then N else 0))
      + (if s = .dma (xS 1 2) then N else 0)) + (if s = .dma (xS 1 1) then N else 0)) + (if s = .dma (xS 1 0) then N else 0))
      + (if s = .reg barS then 1 else 0)) + (if s = .reg barS then 1 else 0)) + (if s = .reg barS then 1 else 0) := by
  unfold O₀ Ors Oag
  simp only [Pi.add_apply, Finsupp.add_apply, tally_tc, Finset.sum_add_distrib, sum_pr]

theorem launch_cell (c : Dev nD) (s : SemLoc sig) (n : ℕ) (h : (∑ d : Dev nD, O₀ d ((c : Thread nD τ), s) ()) = n) :
    tallyOn ((c : Thread nD τ), s) (launchCredit (Pipeline.owing O₀) 0 ((c : Thread nD τ), s)) = (tallyAt ((c : Thread nD τ), s) () n : CellTallies nD τ sig Unit) := by
  unfold tallyAt; refine congrArg _ (Finsupp.ext fun u => ?_); cases u
  rw [Pipeline.launchCredit_owing, Finsupp.single_eq_same, h]

theorem creds_intro (c : Dev nD) : (Pipeline.launchCred O₀ c : sProp 𝕄) ⊢ creds (F := F) c := by
  unfold Pipeline.launchCred creds
  refine (bigSep_subset (t := [SemLoc.reg barS, .dma (xS 1 0), .dma (xS 1 1), .dma (xS 1 2), .dma (xS 3 0), .dma (xS 3 1), .dma (xS 3 2)].toFinset) (Finset.subset_univ _)).trans ?_
  refine (Entails.of_eq (bigSep_eq_bigSepL_of_eq [SemLoc.reg barS, .dma (xS 1 0), .dma (xS 1 1), .dma (xS 1 2), .dma (xS 3 0), .dma (xS 3 1), .dma (xS 3 2)] rfl (by decide) _)).trans ?_
  have hb := launch_cell c (.reg barS) 3 (by rw [owed_sum]; rfl)
  have h1 : ∀ j : Fin 3, _ := fun j => launch_cell c (.dma (xS 1 j)) N (by rw [owed_sum]; fin_cases j <;> decide)
  have h3 : ∀ j : Fin 3, _ := fun j => launch_cell c (.dma (xS 3 j)) N (by rw [owed_sum]; fin_cases j <;> decide)
  rw [← hb, ← h1 0, ← h1 1, ← h1 2, ← h3 0, ← h3 1, ← h3 2]
  rw [bigSepL_seven]
  iintro ⟨A, B0, B1, B2, C0, C1, C2⟩
  isplitl [A]; · iexact A
  isplitl [B0 B1 B2]
  · isplitl [B0]; · iexact B0
    isplitl [B1]; · iexact B1
    iexact B2
  isplitl [C0]; · iexact C0
  isplitl [C1]; · iexact C1
  iexact C2

/-! ### One device's part -/

theorem send_intro (K : CellIx → ℕ) (c : Dev nD) (k k' : Fin 4) (j : Fin 3) :
    iprop(records m K ∗ dutyTok ER (xCell c k j) 0 0 ∗ dutyTok ER (xCell (pr c j) k' j) 0 0) ⊢ sendRes m K c k k' j := by
  unfold sendRes
  iintro ⟨#HR, T1, T2⟩
  isplitr; · iapply (inv_at m K (c, some (k, j))); iexact HR
  isplitr; · iapply (inv_at m K (pr c j, some (k', j))); iexact HR
  isplitl [T1]; · iexact T1
  isplitr; · iapply (reached_at m K (c, some (k, j))); iexact HR
  iexact T2

theorem send3_intro (K : CellIx → ℕ) (c : Dev nD) (k k' : Fin 4) :
    iprop(records m K ∗ (dutyTok ER (xCell c k 0) 0 0 ∗ dutyTok ER (xCell c k 1) 0 0 ∗ dutyTok ER (xCell c k 2) 0 0)
        ∗ (dutyTok ER (xCell (pr c 0) k' 0) 0 0 ∗ dutyTok ER (xCell (pr c 1) k' 1) 0 0 ∗ dutyTok ER (xCell (pr c 2) k' 2) 0 0))
      ⊢ iprop(sendRes m K c k k' 0 ∗ sendRes m K c k k' 1 ∗ sendRes m K c k k' 2) := by
  iintro ⟨#HR, ⟨T0, T1, T2⟩, R0, R1, R2⟩
  isplitl [T0 R0]
  · iapply (send_intro m K c k k' 0); isplitr; · iexact HR
    isplitl [T0] <;> iassumption
  isplitl [T1 R1]
  · iapply (send_intro m K c k k' 1); isplitr; · iexact HR
    isplitl [T1] <;> iassumption
  iapply (send_intro m K c k k' 2); isplitr; · iexact HR
  isplitl [T2] <;> iassumption

theorem wait3_intro (K : CellIx → ℕ) (c : Dev nD) (k : Fin 4) :
    iprop(records m K ∗ atPos ER (xCell c k 0) 0 ∅ 0 ∗ atPos ER (xCell c k 1) 0 ∅ 0 ∗ atPos ER (xCell c k 2) 0 ∅ 0)
      ⊢ iprop(waitRes m K c k 0 ∗ waitRes m K c k 1 ∗ waitRes m K c k 2) := by
  unfold waitRes
  iintro ⟨#HR, P0, P1, P2⟩
  isplitl [P0]
  · isplitr; · iapply (inv_at m K (c, some (k, 0))); iexact HR
    iexact P0
  isplitl [P1]
  · isplitr; · iapply (inv_at m K (c, some (k, 1))); iexact HR
    iexact P1
  isplitr; · iapply (inv_at m K (c, some (k, 2))); iexact HR
  iexact P2

theorem sig_intro (K : CellIx → ℕ) (c : Dev nD) (j j' : Fin 3) :
    iprop(records m K ∗ dutyTok ER (barCell (pr c j)) 0 j') ⊢ sigRes m K c j j' := by
  unfold sigRes
  iintro ⟨#HR, T⟩
  isplitr; · iapply (inv_at m K (pr c j, none)); iexact HR
  isplitl [T]; · iexact T
  isplitr; · iapply (reached_at m K (pr c j, none)); iexact HR
  isplitr; · iapply (reached_at m K (c, some (1, j'))); iexact HR
  iapply (reached_at m K (c, some (3, j'))); iexact HR

/-- A device's part of the ghost state, with the launch credit and the levels, is what its exchange and its barrier need. -/
theorem res_intro (c : Dev nD) :
    iprop(G' m c ∗ creds (F := F) c ∗ levAts L lv) ⊢ iprop(∃ K, exchRes m K c ∗ barRes m K c ∗ loadZero (F := F) c) := by
  unfold G' linear creds payToks exchRes barRes
  rw [bigSep_opt, bigSep_three, bigSep_kj]
  iintro ⟨⟨%K, #HR, ⟨PB, P00, P01, P02, P10, P11, P12, P20, P21, P22, P30, P31, P32⟩, ⟨⟨B0, B1, B2⟩, T00, T01, T02, T10, T11, T12, T20, T21, T22, T30, T31, T32⟩, HL⟩, ⟨CB, C, D⟩, #Hlev⟩
  iexists K
  isplitr [HL PB B0 B1 B2 CB]
  · isplitl [T00 T01 T02 T10 T11 T12]
    · iapply (send3_intro m K c 0 1); isplitr; · iexact HR
      isplitl [T00 T01 T02]
      · isplitl [T00]; · iexact T00
        isplitl [T01]; · iexact T01
        iexact T02
      isplitl [T10]; · iexact T10
      isplitl [T11]; · iexact T11
      iexact T12
    isplitl [T20 T21 T22 T30 T31 T32]
    · iapply (send3_intro m K c 2 3); isplitr; · iexact HR
      isplitl [T20 T21 T22]
      · isplitl [T20]; · iexact T20
        isplitl [T21]; · iexact T21
        iexact T22
      isplitl [T30]; · iexact T30
      isplitl [T31]; · iexact T31
      iexact T32
    isplitl [P00 P01 P02]
    · iapply (wait3_intro m K c 0); isplitr; · iexact HR
      isplitl [P00]; · iexact P00
      isplitl [P01]; · iexact P01
      iexact P02
    isplitl [P10 P11 P12]
    · iapply (wait3_intro m K c 1); isplitr; · iexact HR
      isplitl [P10]; · iexact P10
      isplitl [P11]; · iexact P11
      iexact P12
    isplitl [P20 P21 P22]
    · iapply (wait3_intro m K c 2); isplitr; · iexact HR
      isplitl [P20]; · iexact P20
      isplitl [P21]; · iexact P21
      iexact P22
    isplitl [P30 P31 P32]
    · iapply (wait3_intro m K c 3); isplitr; · iexact HR
      isplitl [P30]; · iexact P30
      isplitl [P31]; · iexact P31
      iexact P32
    isplitl [C]; · iexact C
    isplitl [D]; · iexact D
    iexact Hlev
  isplitl [PB B0 B1 B2 CB]
  · isplitl [B0 B1 B2]
    · isplitl [B0]
      · iapply (sig_intro m K c 0 2); isplitr; · iexact HR
        iexact B0
      isplitl [B1]
      · iapply (sig_intro m K c 1 1); isplitr; · iexact HR
        iexact B1
      iapply (sig_intro m K c 2 0); isplitr; · iexact HR
      iexact B2
    isplitr; · iapply (inv_at m K (c, none)); iexact HR
    isplitl [PB] <;> iassumption
  iexact HL

end Cert.KernelIdeal.P
-- ==== Proof.Loads.lean ====
/-
  What the loads of the gathered key and value buffers read: the buffers are filled by 68 copies of 64 rows each, and
  a load of some rows reads the gathered rows of the array the copies come from.
-/
module

public import proofs.«01_k».proof.Proof.Vals
public import Idealize.ShloMosaic.Lib.Writes
public import Idealize.ShloMosaic.Lib.Exec

@[expose] public section

set_option maxRecDepth 16384

noncomputable section

namespace Cert.KernelIdeal.P

open Cert.KernelIdeal Cert.KernelIdeal.Gen
open Idealize.ShloMosaic
open Idealize.ShloMosaic.TcCoe

variable {F : FTy → Type} [FloatOps F]

theorem dst_inb (b : ℕ) (h : b < 68) : ∀ a, (![64 * b, 0] : Fin 2 → ℕ) a + S64x1024.size a ≤ S4352x1024.size a := by
  intro a; fin_cases a
  · show 64 * b + 64 ≤ 4352; omega
  · show 0 + 1024 ≤ 1024; omega
theorem src_inb (b : ℕ) (h : b < 68) : ∀ a, (![64 * srcBlk b, 0] : Fin 2 → ℕ) a + S64x1024.size a ≤ S4096x1024.size a := by
  have := srcBlk_lt b h
  intro a; fin_cases a
  · show 64 * srcBlk b + 64 ≤ 4096; omega
  · show 0 + 1024 ≤ 1024; omega

/-- The first `n` copies into a gathered buffer, newest first: copy `b` writes rows `64 b` to `64 b + 63` with the rows of block `srcBlk b` of the array. -/
def pieces (M : Memref sig .tc .hbm S4096x1024 .f32) (f : M.view.ty.Contents (Elt F)) : (n : ℕ) → n ≤ 68 → List (View.Piece (Elt F) S4352x1024 .f32)
  | 0, _ => []
  | n + 1, h =>
    ⟨Rect.unit (s := S4352x1024) ![64 * n, 0] S64x1024.size (dst_inb n h),
      ReadAs.same.apply (View.read (Elt F) (M.slice (Rect.unit (s := S4096x1024) ![64 * srcBlk n, 0] S64x1024.size (src_inb n h)) (fun _ => rfl)).view f)⟩
      :: pieces M f n (Nat.le_of_succ_le h)

theorem pieces_agree (M : Memref sig .tc .hbm S4096x1024 .f32) (f : M.view.ty.Contents (Elt F)) :
    ∀ (n : ℕ) (h : n ≤ 68), ∀ p ∈ pieces M f n h, ∀ x : p.1.shape.Idx, p.2 x = gather (M.view.read (Elt F) f) (p.1.emb x)
  | 0, _, _, hp, _ => absurd hp List.not_mem_nil
  | n + 1, h, p, hp, x => by
    rcases List.mem_cons.mp hp with rfl | hp
    · show M.view.read (Elt F) f ((Rect.unit (s := S4096x1024) ![64 * srcBlk n, 0] S64x1024.size (src_inb n h)).emb x) = M.view.read (Elt F) f _
      refine congrArg _ (funext fun a => Fin.ext ?_)
      have hx : (x 0).val < 64 := (x 0).isLt
      fin_cases a
      · show 64 * srcBlk n + 1 * (x 0).val = 64 * srcBlk ((64 * n + 1 * (x 0).val) / 64) + (64 * n + 1 * (x 0).val) % 64
        rw [show (64 * n + 1 * (x 0).val) / 64 = n by omega]; omega
      · show 0 + 1 * (x 1).val = 0 + 1 * (x 1).val
        rfl
    · exact pieces_agree M f n _ p hp x

theorem pieces_cover (M : Memref sig .tc .hbm S4096x1024 .f32) (f : M.view.ty.Contents (Elt F)) :
    ∀ (n : ℕ) (h : n ≤ 68) (y : S4352x1024.Idx), (y 0).val < 64 * n → ∃ p ∈ pieces M f n h, y ∈ p.1.set
  | 0, _, _, hy => by omega
  | n + 1, h, y, hy => by
    by_cases hn : (y 0).val < 64 * n
    · obtain ⟨p, hp, hy'⟩ := pieces_cover M f n (Nat.le_of_succ_le h) y hn
      exact ⟨p, List.mem_cons_of_mem _ hp, hy'⟩
    · refine ⟨_, List.mem_cons_self, ?_⟩
      refine (LoadRect.mem_set _).mpr fun a => ?_
      have hy1 : (y 1).val < 1024 := (y 1).isLt
      fin_cases a
      · exact ⟨(y 0).val - 64 * n, by show (y 0).val - 64 * n < 64; omega, by show (y 0).val = 64 * n + 1 * ((y 0).val - 64 * n); omega⟩
      · exact ⟨(y 1).val, hy1, by show (y 1).val = 0 + 1 * (y 1).val; omega⟩

/-- A load of rows after the 68 copies reads the gathered rows. -/
theorem readCov_pieces {sp : Space} {κ : Kind} (v : View sig κ sp S4352x1024 .f32) (M : Memref sig .tc .hbm S4096x1024 .f32) (f : M.view.ty.Contents (Elt F))
    (B : LoadRect S4352x1024) : v.readCov (pieces M f 68 (le_refl _)) B = fun j => gather (M.view.read (Elt F) f) (B.idx j) :=
  funext fun j => View.read_writes_apply_of_pieces v v.junk _ _ (pieces_agree M f 68 _) (B.idx j)
    (pieces_cover M f 68 _ (B.idx j) (B.idx j 0).isLt)

theorem load0 (G : S4352x1024.Idx → Elt F .f32) (h : ∀ a, (![0, 0] : Fin 2 → ℕ) a + S1408x1024.size a ≤ S4352x1024.size a) :
    (fun j => G ((Rect.unit (s := S4352x1024) ![0, 0] S1408x1024.size h).toLoadRect.idx j)) = grp0 G :=
  funext fun j => congrArg G (funext fun a => Fin.ext (by
    fin_cases a
    · show 0 + 1 * (j 0).val = (j 0).val; omega
    · show 0 + 1 * (j 1).val = (j 1).val; omega))
theorem load1 (G : S4352x1024.Idx → Elt F .f32) (h : ∀ a, (![1408, 0] : Fin 2 → ℕ) a + S1472x1024.size a ≤ S4352x1024.size a) :
    (fun j => G ((Rect.unit (s := S4352x1024) ![1408, 0] S1472x1024.size h).toLoadRect.idx j)) = grp1 G :=
  funext fun j => congrArg G (funext fun a => Fin.ext (by
    fin_cases a
    · show 1408 + 1 * (j 0).val = 1408 + (j 0).val; omega
    · show 0 + 1 * (j 1).val = (j 1).val; omega))
theorem load2 (G : S4352x1024.Idx → Elt F .f32) (h : ∀ a, (![2880, 0] : Fin 2 → ℕ) a + S1472x1024.size a ≤ S4352x1024.size a) :
    (fun j => G ((Rect.unit (s := S4352x1024) ![2880, 0] S1472x1024.size h).toLoadRect.idx j)) = grp2 G :=
  funext fun j => congrArg G (funext fun a => Fin.ext (by
    fin_cases a
    · show 2880 + 1 * (j 0).val = 2880 + (j 0).val; omega
    · show 0 + 1 * (j 1).val = (j 1).val; omega))

end Cert.KernelIdeal.P
-- ==== Proof.Body.lean ====
/-
  The whole program run at one device: the local transfers, the barrier, the attention of the device's heads, then the exchange.
-/
module

public import proofs.«01_k».proof.Proof.Res
public import proofs.«01_k».proof.Proof.Loads
public import Idealize.ShloMosaic.Lib.VecWindow

@[expose] public section

set_option maxRecDepth 16384

noncomputable section

namespace Cert.KernelIdeal.P

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (K : CellIx → ℕ)

/-- The arrays in the device's large memory that come back whole. -/
def hbmLeft (c : Dev nD) : sProp 𝕄 :=
  iprop(((Memref.whole main_arg1).view.loc (c : Thread nD τ) ↦{fullShare} m ((c : Thread nD τ).loc main_arg1))
    ∗ ((Memref.whole main_arg4).view.loc (c : Thread nD τ) ↦{fullShare} m ((c : Thread nD τ).loc main_arg4)))

theorem zero2 : (![0, 0] : Fin 2 → ℕ) = fun _ => 0 := by funext a; fin_cases a <;> rfl
theorem zero3 : (![0, 0, 0] : Fin 3 → ℕ) = fun _ => 0 := by funext a; fin_cases a <;> rfl

/-- A buffer a transfer filled whole reads what the transfer wrote. -/
theorem load_filled (b : Ref sig .tc) {off : Fin b.ty.shape.rank → ℕ} (h : off = fun _ => 0) (inb : ∀ a, off a + b.ty.shape.size a ≤ b.ty.shape.size a)
    (f w : b.ty.Contents (Elt F)) :
    (Memref.whole b).view.readAt (Elt F) (Rect.unit off b.ty.shape.size inb).toLoadRect (View.write (Elt F) (Memref.whole b).view f w Finset.univ) = w :=
  (Memref.readAt_unit_zero (Elt F) b h inb _).trans ((View.read_whole b _).symm.trans (View.read_write_univ _ _))

/-- A store over the whole of the send buffer leaves what it stores. -/
theorem rs_full (c : Dev nD) (rs : Buf (Elt F) (rsM.view.loc (c : Thread nD τ))) (w : S256x1024.Idx → Elt F .bf16) :
    rsM.view.writes (Elt F) rs [⟨Rect.unit (s := S256x1024) ![0, 0] S256x1024.size inb_S256x1024_S256x1024_0_0, w⟩] = w :=
  (View.read_whole cc0_scratch4 _).symm.trans (View.read_writes_full (Memref.whole cc0_scratch4).view rs inb_S256x1024_S256x1024_0_0 w [])

/-- What follows the exchange, from what the rest of the program leaves. -/
theorem body_finish (c : Dev nD) (v2 v2411 : BitVec 32) (W : Waits sig Unit) (g : Buf (Elt F) (agM.view.loc (c : Thread nD τ)))
    (o : Buf (Elt F) ((Memref.whole cc0_stg1_0).view.loc (c : Thread nD τ))) (Q : PUnit → sProp 𝕄)
    (rs : Buf (Elt F) (rsM.view.loc (c : Thread nD τ))) (hrs : rs = rsSrc m c)
    (f0 : Buf (Elt F) ((Memref.whole cc0_scratch0).view.loc (c : Thread nD τ))) (f1 : Buf (Elt F) ((Memref.whole cc0_scratch1).view.loc (c : Thread nD τ)))
    (f2 : Buf (Elt F) ((Memref.whole cc0_scratch2).view.loc (c : Thread nD τ))) (f3 : Buf (Elt F) ((Memref.whole cc0_scratch3).view.loc (c : Thread nD τ))) :
    iprop(exchRes m K c ∗ (rsM.view.loc (c : Thread nD τ) ↦{fullShare} rs) ∗ (agM.view.loc (c : Thread nD τ) ↦{fullShare} g)
        ∗ ((Memref.whole cc0_stg0_0).view.loc (c : Thread nD τ) ↦{fullShare} xstg m c)
        ∗ ((Memref.whole cc0_stg1_0).view.loc (c : Thread nD τ) ↦{fullShare} o)
        ∗ (∀ W', exchPost m c W' ∗ semVal (barCell c) 0 ∗ hbmLeft m c ∗ loadZero (F := F) c ∗ loadBufs (F := F) c
            ∗ ((Memref.whole cc0_stg0_0).view.loc (c : Thread nD τ) ↦{fullShare} xstg m c) -∗ Q ⟨⟩)
        ∗ semVal (barCell c) 0 ∗ barPay (F := F) c 0 ∗ barPay (F := F) c 1 ∗ barPay (F := F) c 2
        ∗ owes (c : Thread nD τ) (Ors c) W
        ∗ hbmLeft m c ∗ loadZero (F := F) c
        ∗ ((Memref.whole cc0_scratch0).view.loc (c : Thread nD τ) ↦{fullShare} f0) ∗ ((Memref.whole cc0_scratch1).view.loc (c : Thread nD τ) ↦{fullShare} f1)
        ∗ ((Memref.whole cc0_scratch2).view.loc (c : Thread nD τ) ↦{fullShare} f2) ∗ ((Memref.whole cc0_scratch3).view.loc (c : Thread nD τ) ↦{fullShare} f3))
      ⊢ wp frame (wpE (defs₀ (F := F)) 𝒱₀ (c : Thread nD τ) none) Set.univ (tail c v2 v2411) Q := by
  subst hrs
  iintro ⟨HX, Hrs, Hag, Hx, Hout, HQ, Hbz, Hp0, Hp1, Hp2, HO, HH, HZ, B0, B1, B2, B3⟩
  iapply (wp_tail m K c v2 v2411 W g o Q)
  isplitl [HX]; · iexact HX
  isplitl [Hp0 Hp1 Hp2]
  · isplitl [Hp0]; · iexact Hp0
    isplitl [Hp1]; · iexact Hp1
    iexact Hp2
  isplitl [HO]; · iexact HO
  isplitl [Hrs]; · iexact Hrs
  isplitl [Hag]; · iexact Hag
  isplitl [Hout]; · iexact Hout
  iintro %W' HE
  iapply HQ $$ %W'
  isplitl [HE]; · iexact HE
  isplitl [Hbz]; · iexact Hbz
  isplitl [HH]; · iexact HH
  isplitl [HZ]; · iexact HZ
  isplitl [B0 B1 B2 B3]
  · unfold loadBufs
    isplitl [B0]; · iexists f0; iexact B0
    isplitl [B1]; · iexists f1; iexact B1
    isplitl [B2]; · iexists f2; iexact B2
    iexists f3; iexact B3
  iexact Hx

set_option maxRecDepth 100000
set_option sl_exec.parts true
set_option maxHeartbeats 1000000
/-- The program of one device, from what the device holds before it, leaves the result and everything else it must give back. -/
theorem wp_body (c : Dev nD) (W : Waits sig Unit)
    (o : Buf (Elt F) ((Memref.whole cc0_stg1_0).view.loc (c : Thread nD τ))) (Q : PUnit → sProp 𝕄)
    (_p0 : Transfers.BatchOf (c : Thread nD τ) (SemLoc.dma (sig := sig) 4) 22 (windows := true))
    (_p1 : Transfers.BatchOf (c : Thread nD τ) (SemLoc.dma (sig := sig) 5) 23 (windows := true))
    (_p2 : Transfers.BatchOf (c : Thread nD τ) (SemLoc.dma (sig := sig) 6) 23 (windows := true))
    (_p3 : Transfers.BatchOf (c : Thread nD τ) (SemLoc.dma (sig := sig) 7) 22 (windows := true))
    (_p4 : Transfers.BatchOf (c : Thread nD τ) (SemLoc.dma (sig := sig) 8) 23 (windows := true))
    (_p5 : Transfers.BatchOf (c : Thread nD τ) (SemLoc.dma (sig := sig) 9) 23 (windows := true)) :
    iprop(exchRes m K c ∗ barRes m K c ∗ hbmRes m c ∗ loadZero (F := F) c ∗ loadBufs (F := F) c ∗ exchBufs (F := F) c
        ∗ owes (c : Thread nD τ) (O₀ c) W
        ∗ ((Memref.whole cc0_stg0_0).view.loc (c : Thread nD τ) ↦{fullShare} xstg m c)
        ∗ ((Memref.whole cc0_stg1_0).view.loc (c : Thread nD τ) ↦{fullShare} o)
        ∗ levAts L lv
        ∗ (∀ W', exchPost m c W' ∗ semVal (barCell c) 0 ∗ hbmLeft m c ∗ loadZero (F := F) c ∗ loadBufs (F := F) c
            ∗ ((Memref.whole cc0_stg0_0).view.loc (c : Thread nD τ) ↦{fullShare} xstg m c) -∗ Q ⟨⟩))
      ⊢ wp frame (wpE (defs₀ (F := F)) 𝒱₀ (c : Thread nD τ) none) Set.univ
     (cc0_body (F := F) (Memref.whole cc0_stg0_0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12)
     Q := by
  unfold barRes hbmRes hbmLeft loadZero loadBufs exchBufs
  iintro ⟨HX, ⟨⟨Sg0, Sg1, Sg2⟩, #HI, Hat, Hcr⟩, ⟨Hq, HK0, HK1, HK2, HV0, HV1, HV2, HW⟩, ⟨S0, S1, S2, S3, S4, S5, S6, S7⟩,
    ⟨⟨%b0, B0⟩, ⟨%b1, B1⟩, ⟨%b2, B2⟩, ⟨%b3, B3⟩⟩, ⟨⟨%rs, Hrs⟩, ⟨%rb, Hrb⟩, ⟨%ag, Hag⟩, ⟨%ab, Hab⟩⟩, HO, Hx, Hout, #Hlev, HQ⟩
  ihave Hrb := (rb_slots c rb).1 $$ Hrb
  icases Hrb with ⟨R0, R1, R2⟩
  ihave Hab := (ab_slots c ab).1 $$ Hab
  icases Hab with ⟨A0, A1, A2⟩
  sl_exec
  have hO : O₀ c = (Ors c + tallyAt (barCell (pr c 2)) () 1 + tallyAt (barCell (pr c 1)) () 1) + tallyAt (barCell (pr c 0)) () 1 := rfl
  rw [hO]
  iapply (wp_sig m K c _ 0 2 rfl (dev1 c) rfl _ _ rb ab) $$ [Sg0 HO R2 A2]
  · isplitl [Sg0]; · iexact Sg0
    isplitl [HO]; · iexact HO
    isplitl [R2]; · iexact R2
    iexact A2
  iintro HO
  sl_exec
  iapply (wp_sig m K c _ 1 1 rfl (dev2 c) rfl _ _ rb ab) $$ [Sg1 HO R1 A1]
  · isplitl [Sg1]; · iexact Sg1
    isplitl [HO]; · iexact HO
    isplitl [R1]; · iexact R1
    iexact A1
  iintro HO
  sl_exec
  iapply (wp_sig m K c _ 2 0 rfl (dev3 c) rfl _ _ rb ab) $$ [Sg2 HO R0 A0]
  · isplitl [Sg2]; · iexact Sg2
    isplitl [HO]; · iexact HO
    isplitl [R0]; · iexact R0
    iexact A0
  iintro HO
  sl_exec
  iapply (wp_barWait m K c rfl (above_Ors c) _) $$ [Hat Hcr HO]
  · isplitr; · iexact HI
    isplitl [Hat]; · iexact Hat
    isplitl [Hcr]; · iexact Hcr
    isplitr; · iexact Hlev
    iexact HO
  iintro ⟨HO, Hbz, Hp0, Hp1, Hp2⟩
  have mw2 := loadWait (F := F) c 2 (by decide)
  have mw3 := loadWait (F := F) c 3 (by decide)
  have mw4 := loadWait (F := F) c 4 (by decide)
  have mw5 := loadWait (F := F) c 5 (by decide)
  have mw6 := loadWait (F := F) c 6 (by decide)
  have mw7 := loadWait (F := F) c 7 (by decide)
  have mw8 := loadWait (F := F) c 8 (by decide)
  have mw9 := loadWait (F := F) c 9 (by decide)
  set_option sl_exec.rejoinFuel 80 in
  set_option sl_exec.stepHeartbeats 4000000 in
  set_option sl_exec.stopBefore "k0_part90" in sl_exec
  have hrs :
      rsM.view.writes (Elt F) rs
        [⟨Rect.unit ![0, 0] S256x1024.size inb_S256x1024_S256x1024_0_0,
            k0_pay40 (wp_body.sl.r_4 m c b0) (wp_body.sl.r_5 m c b0) (wp_body.sl.r_6 m c b0) (wp_body.sl.r_8 m c b0)
              (wp_body.sl.r_9 m c b0) (wp_body.sl.r_12 m c b0) (wp_body.sl.r_16 m c b0) (wp_body.sl.r_17 m c b0)
              (wp_body.sl.r_18 m c b0) (wp_body.sl.r_20 m c b0) (wp_body.sl.r_21 m c b0) (wp_body.sl.r_22 m c b0)
              (wp_body.sl.r_26 m c b0) (wp_body.sl.r_27 m c b0) (wp_body.sl.r_28 m c b0) (wp_body.sl.r_31 m c b0)
              (wp_body.sl.r_32 m c b0) (wp_body.sl.r_33 m c b0) (wp_body.sl.r_34 m c b0) (wp_body.sl.r_35 m c b0)
              (wp_body.sl.v2395 m c b3)⟩] = rsSrc m c := by
    have ek0 : wp_body.sl.v1317 m c = grp0 (kAll m c) :=
      Eq.trans (show _ = View.readCov (Memref.whole cc0_scratch1).view (pieces kM (m ((c : Thread nD τ).loc main_arg2)) 68 (le_refl _)) (Rect.unit (s := S4352x1024) ![0, 0] S1408x1024.size (by decide)).toLoadRect from rfl)
        ((readCov_pieces _ _ _ _).trans (load0 _ _))
    have ev0 : wp_body.sl.v1318 m c = grp0 (vAll m c) :=
      Eq.trans (show _ = View.readCov (Memref.whole cc0_scratch2).view (pieces vM (m ((c : Thread nD τ).loc main_arg3)) 68 (le_refl _)) (Rect.unit (s := S4352x1024) ![0, 0] S1408x1024.size (by decide)).toLoadRect from rfl)
        ((readCov_pieces _ _ _ _).trans (load0 _ _))
    have ek1 : wp_body.sl.v1785 m c = grp1 (kAll m c) :=
      Eq.trans (show _ = View.readCov (Memref.whole cc0_scratch1).view (pieces kM (m ((c : Thread nD τ).loc main_arg2)) 68 (le_refl _)) (Rect.unit (s := S4352x1024) ![1408, 0] S1472x1024.size (by decide)).toLoadRect from rfl)
        ((readCov_pieces _ _ _ _).trans (load1 _ _))
    have ev1 : wp_body.sl.v1786 m c = grp1 (vAll m c) :=
      Eq.trans (show _ = View.readCov (Memref.whole cc0_scratch2).view (pieces vM (m ((c : Thread nD τ).loc main_arg3)) 68 (le_refl _)) (Rect.unit (s := S4352x1024) ![1408, 0] S1472x1024.size (by decide)).toLoadRect from rfl)
        ((readCov_pieces _ _ _ _).trans (load1 _ _))
    have ek2 : wp_body.sl.v2237 m c = grp2 (kAll m c) :=
      Eq.trans (show _ = View.readCov (Memref.whole cc0_scratch1).view (pieces kM (m ((c : Thread nD τ).loc main_arg2)) 68 (le_refl _)) (Rect.unit (s := S4352x1024) ![2880, 0] S1472x1024.size (by decide)).toLoadRect from rfl)
        ((readCov_pieces _ _ _ _).trans (load2 _ _))
    have ev2 : wp_body.sl.v2238 m c = grp2 (vAll m c) :=
      Eq.trans (show _ = View.readCov (Memref.whole cc0_scratch2).view (pieces vM (m ((c : Thread nD τ).loc main_arg3)) 68 (le_refl _)) (Rect.unit (s := S4352x1024) ![2880, 0] S1472x1024.size (by decide)).toLoadRect from rfl)
        ((readCov_pieces _ _ _ _).trans (load2 _ _))
    have e7 : wp_body.sl.v1007 m c b0 = wqV m c := load_filled cc0_scratch0 zero2 _ _ _
    have eq : wp_body.sl.r m c b0 = k0_pay2 (xstg m c) (wqV m c) := by
      rw [← e7]; exact congrFun (congrArg k0_pay2 (Memref.readAt_unit_zero (Elt F) cc0_stg0_0 zero3 _ (xstg m c))) _
    have eo : wp_body.sl.v2395 m c b3 = woV m c := load_filled cc0_scratch3 zero2 _ _ _
    refine (rs_full c rs _).trans ?_
    show accOf (wp_body.sl.r m c b0) (wp_body.sl.v1317 m c) (wp_body.sl.v1318 m c) (wp_body.sl.v1785 m c) (wp_body.sl.v1786 m c) (wp_body.sl.v2237 m c) (wp_body.sl.v2238 m c) (wp_body.sl.v2395 m c b3) = _
    rw [ek0, ev0, ek1, ev1, ek2, ev2, eq, eo]
    rfl
  refine (show Entails' _ (wp frame (wpE (defs₀ (F := F)) 𝒱₀ (c : Thread nD τ) none) Set.univ (tail c _ _) Q) from ?_)
  iapply (body_finish m K c _ _ _ ag o Q _ hrs _ _ _ _)
  isplitl [HX]; · iexact HX
  isplitl [Hrs]; · iexact Hrs
  isplitl [Hag]; · iexact Hag
  isplitl [Hx]; · iexact Hx
  isplitl [Hout]; · iexact Hout
  isplitl [HQ]; · unfold hbmLeft loadZero loadBufs; iexact HQ
  isplitl [Hbz]; · iexact Hbz
  isplitl [Hp0]; · iexact Hp0
  isplitl [Hp1]; · iexact Hp1
  isplitl [Hp2]; · iexact Hp2
  isplitl [HO]; · iexact HO
  isplitl [Hq HW]
  · unfold hbmLeft
    isplitl [Hq]; · iexact Hq
    iexact HW
  isplitl [S0 S1 S2 S3 S4 S5 S6 S7]
  · unfold loadZero
    isplitl [S0]; · iexact S0
    isplitl [S1]; · iexact S1
    isplitl [S2]; · iexact S2
    isplitl [S3]; · iexact S3
    isplitl [S4]; · iexact S4
    isplitl [S5]; · iexact S5
    isplitl [S6]; · iexact S6
    iexact S7
  isplitl [B0]; · iexact B0
  isplitl [B1]; · iexact B1
  isplitl [B2]; · iexact B2
  iexact B3

end Cert.KernelIdeal.P
-- ==== Proof.Launch.lean ====
/-
  The run of the four devices: the pipeline's obligation for the program's one point, the launch, and what every final state holds.
-/
module

public import proofs.«01_k».proof.Proof.Ghost
public import proofs.«01_k».proof.Proof.Body
public import proofs.«01_k».proof.Proof.Gen.KernelIdeal.Points
public import Idealize.ShloMosaic.Lib.Pipeline.CollectiveSegs
public import Idealize.ShloMosaic.Lib.Pipeline.ValueKit
public import Idealize.ShloMosaic.Lib.Quiescent

@[expose] public section

set_option maxRecDepth 16384

noncomputable section

namespace Cert.KernelIdeal.P

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
/-- The launch memory of device `c`'s array. -/
abbrev m₀ (c : Dev nD) (b : Ref sig .tc) : Buf (Elt F) ((c : Thread nD τ).loc b) := m ((c : Thread nD τ).loc b)

/-- What device `c` starts from. -/
def start (c : Dev nD) : sProp 𝕄 :=
  iprop((∃ K, exchRes m K c ∗ barRes m K c ∗ loadZero (F := F) c) ∗ hbmRes m c ∗ levAts L lv)
def Φ₀ (c : Dev nD) : sProp 𝕄 := iprop(start m c ∗ loadBufs (F := F) c ∗ exchBufs (F := F) c)
/-- What device `c` ends with. -/
def Φ₁ (c : Dev nD) : sProp 𝕄 :=
  iprop(cellsZero (F := F) c ∗ exchBufs (F := F) c ∗ semVal (barCell c) 0 ∗ hbmLeft m c ∗ loadZero (F := F) c ∗ loadBufs (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))
def bodyPost (c : Dev nD) : sProp 𝕄 :=
  iprop(Φ₁ m c ∗ (dats m ρ 0 c).owesAt () t0_0.succ ∗ stg c cc0_stg0_0 (xstg m c) ∗ stg c cc0_stg1_0 (outAt m c))

/-- The program of the one point takes what the pipeline hands it to what the pipeline takes back. -/
theorem sound_body (c : Dev nD) :
    bodyPre m ρ c ⊢ wp frame (wpE (defs₀ (F := F)) 𝒱₀ (c : Thread nD τ) none) Set.univ
     (cc0_body (F := F) (Memref.whole cc0_stg0_0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12)
     (fun _ => bodyPost m ρ c) := by
  unfold bodyPre Φ₀ start
  iintro ⟨⟨⟨⟨%K, HX, HB, HL⟩, Hh, Hlev⟩, Hlb, Heb⟩, Ho, ⟨%d0, %g0, %hg0, Hx⟩, ⟨%d1, %g1, %hg1, Hout⟩⟩
  have hx : g0 = xstg m c := by rw [hg0]; unfold Dat.before; rw [if_pos (fetch0_0 t0_0)]; rfl
  subst hx
  unfold Dat.owesAt Pipeline.owesWithin
  icases Ho with ⟨%W, %hW, HO⟩
  rw [show (dats m ρ 0 c).owed t0_0.castSucc = O₀ c from rfl]
  iapply (wp_body m K c W g1 (fun _ => bodyPost m ρ c) trivial trivial trivial trivial trivial trivial)
  isplitl [HX]; · iexact HX
  isplitl [HB]; · iexact HB
  isplitl [Hh]; · iexact Hh
  isplitl [HL]; · iexact HL
  isplitl [Hlb]; · iexact Hlb
  isplitl [Heb]; · iexact Heb
  isplitl [HO]; · iexact HO
  isplitl [Hx]; · iexact Hx
  isplitl [Hout]; · iexact Hout
  isplitl [Hlev]; · iexact Hlev
  iintro %W' ⟨HP, Hb, Hl, HL, Hlb, Hx⟩
  unfold exchPost
  icases HP with ⟨HO, Hz, Hrs, Hrb, Hag, Hab, Hout⟩
  unfold bodyPost Φ₁ Dat.owesAt Pipeline.owesWithin
  rw [show (dats m ρ 0 c).owed t0_0.succ = 0 from rfl]
  isplitl [Hz Hrs Hrb Hag Hab Hb Hl HL Hlb]
  · isplitl [Hz]; · iexact Hz
    isplitl [Hrs Hrb Hag Hab]
    · unfold exchBufs
      isplitl [Hrs]; · (iexists _; iexact Hrs)
      isplitl [Hrb]; · (iexists _; iexact Hrb)
      isplitl [Hag]; · (iexists _; iexact Hag)
      iexists _; iexact Hab
    isplitl [Hb]; · iexact Hb
    isplitl [Hl]; · iexact Hl
    isplitl [HL]; · iexact HL
    iexact Hlb
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 100000 in
/-- The pipeline's obligation on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  exact sound_body m ρ c

theorem share_eq (c : Dev nD) (w : Fin cfg0.W) : (dats m ρ 0 c).share w = fullShare := by unfold Dat.share; split <;> rfl

/-! ### The launch's side conditions -/

/-- An array owned whole yields a share kept apart and three of its read tokens. -/
theorem toks_at {ℓ : Loc nD τ sig} (f : Buf (Elt F) ℓ) (a b d : ℕ) (hab : a < b) (hbd : b < d) :
    (ℓ ↦{fullShare} f : sProp 𝕄) ⊢ iprop((ℓ ↦{Transfers.shareDrop fullShare (d + 1)} f)
      ∗ (ℓ ↦{Transfers.shareTokN fullShare a} f) ∗ (ℓ ↦{Transfers.shareTokN fullShare b} f) ∗ (ℓ ↦{Transfers.shareTokN fullShare d} f)) := by
  refine (Transfers.pointsTo_toks_range (S := Finset.univ) fullShare (d + 1)).1.trans (sep_mono_right ?_)
  refine (bigSep_subset (t := [a, b, d].toFinset) (fun x hx => ?_)).trans ?_
  · simp only [List.mem_toFinset, List.mem_cons, List.not_mem_nil, or_false] at hx
    rw [Finset.mem_range]; omega
  · refine (Entails.of_eq (bigSep_eq_bigSepL_of_eq [a, b, d] rfl (by
      simp only [List.nodup_cons, List.mem_cons, List.not_mem_nil, or_false, not_or, List.nodup_nil, and_true, not_false_eq_true]; omega) _)).trans ?_
    exact Entails.of_eq rfl

/-- The shares of the key and value arrays kept out of the run. -/
def kept (c : Dev nD) : sProp 𝕄 :=
  iprop((((c : Thread nD τ).loc main_arg2) ↦{Transfers.shareDrop fullShare 7} m ((c : Thread nD τ).loc main_arg2))
    ∗ (((c : Thread nD τ).loc main_arg3) ↦{Transfers.shareDrop fullShare 10} m ((c : Thread nD τ).loc main_arg3)))

theorem hbm_intro (c : Dev nD) :
    iprop(Pipeline.unscopedRestP Pipeline.Prefetch.none cfg0.spec c (fun b => m ((c : Thread nD τ).loc b))) ⊢ iprop(hbmRes m c ∗ kept m c) := by
  rw [Pipeline.unscopedRestP_none, show Pipeline.unscopedRest cfg0.spec c (fun b => m ((c : Thread nD τ).loc b)) = _ from unscopedRest0_eq c _]
  unfold hbmRes kept
  iintro ⟨H1, H2, H3, H4⟩
  ihave H2 := (toks_at (m ((c : Thread nD τ).loc main_arg2)) 4 5 6 (by decide) (by decide)) $$ H2
  ihave H3 := (toks_at (m ((c : Thread nD τ).loc main_arg3)) 7 8 9 (by decide) (by decide)) $$ H3
  icases H2 with ⟨D2, A, B, C⟩
  icases H3 with ⟨D3, A', B', C'⟩
  isplitr [D2 D3]
  · isplitl [H1]; · iexact H1
    isplitl [A]; · iexact A
    isplitl [B]; · iexact B
    isplitl [C]; · iexact C
    isplitl [A']; · iexact A'
    isplitl [B']; · iexact B'
    isplitl [C']; · iexact C'
    iexact H4
  · isplitl [D2]; · iexact D2
    iexact D3

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ kept m c) := by
  iintro ⟨Hr, #Hlev, Hcr, -, HG⟩
  ihave Hc := (creds_intro (F := F) c) $$ Hcr
  ihave Hh := (hbm_intro m c) $$ Hr
  icases Hh with ⟨Hh, Hk⟩
  ihave HR := (res_intro m c) $$ [HG Hc]
  · isplitl [HG]; · iexact HG
    isplitl [Hc]; · iexact Hc
    iexact Hlev
  imodintro
  unfold start
  isplitr [Hk]
  · isplitl [HR]; · iexact HR
    isplitl [Hh]; · iexact Hh
    iexact Hlev
  · iexact Hk

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ loadBufs exchBufs
  iintro ⟨Hs, -, B0, B1, B2, B3, B4, B5, B6, B7⟩
  isplitl [Hs]; · iexact Hs
  isplitl [B0 B1 B2 B3]
  · isplitl [B0]; · iexact B0
    isplitl [B1]; · iexact B1
    isplitl [B2]; · iexact B2
    iexact B3
  · isplitl [B4]; · iexact B4
    isplitl [B5]; · iexact B5
    isplitl [B6]; · iexact B6
    iexact B7

theorem phi1_exit (c : Dev nD) :
    (dats m ρ 0 c).Φ (Fin.last cfg0.N) ⊢ iprop((unscopedSems0 c ∗ hbmLeft m c) ∗ Pipeline.ownSems0 osem c ∗ Pipeline.scopedRest cfg0.spec c) := by
  rw [show (dats m ρ 0 c).Φ (Fin.last cfg0.N) = Φ₁ m c from rfl, scopedRest0_eq, unscopedSems0_eq]
  unfold Φ₁ loadBufs exchBufs
  iintro ⟨Hz, ⟨B4, B5, B6, B7⟩, Hb, Hl, HL, B0, B1, B2, B3⟩
  isplitl [Hb Hl]
  · isplitl [Hb]; · iexact Hb
    iexact Hl
  isplitl [Hz HL]
  · iapply (ownSems0_split (F := F) c).2
    isplitl [HL]; · iexact HL
    iexact Hz
  isplitl [B0]; · iexact B0
  isplitl [B1]; · iexact B1
  isplitl [B2]; · iexact B2
  isplitl [B3]; · iexact B3
  isplitl [B4]; · iexact B4
  isplitl [B5]; · iexact B5
  isplitl [B6]; · iexact B6
  iexact B7

theorem waits (c : Dev nD) : (levAts L lv : sProp 𝕄) ⊢ Pipeline.cellsWaits cfgs (dats m ρ) () 0 c :=
  Pipeline.cellsWaits_intro cfgs (dats m ρ) () 0 c fun w s t =>
    mayWait_of_above c _ 0 (by fin_cases w <;> fin_cases s <;> decide) (by
      rcases t with ⟨_ | _, ht⟩
      · exact above_O₀ c
      · exact above_zero 0)

/-- What is read of the final state beside the windows' arrays. -/
def QY (c : Dev nD) (s : MemSt nD τ sig (Elt F)) : Prop :=
  (∀ sm : SemLoc sig, sm.isScoped .tc = false → s.sem ((c.tc : Thread nD τ), sm) = 0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4)

/-- Under the state's interpretation, an array owned at any share is what the memory holds. -/
theorem mem_read {ℓ : Loc nD τ sig} {q : PosShare TreeShare} (f : Buf (Elt F) ℓ) (s' : Phys nD τ sig (Elt F)) :
    iprop((ℓ ↦{q} f) ∗ SI s') ⊢ (iprop(⌜s'.mem.mem ℓ = f⌝ ∗ SI s') : sProp 𝕄) := by
  iintro ⟨H, HSI⟩
  icombine HSI H gives %h
  isplitr; · ipureintro; exact funext fun i => h i (Finset.mem_univ i)
  iexact HSI

theorem read_end (c : Dev nD) (s' : Phys nD τ sig (Elt F)) :
    iprop((unscopedSems0 c ∗ hbmLeft m c) ∗ kept m c ∗ SI s') ⊢ (|={Set.univ}=> iprop(⌜QY m c s'.mem⌝ ∗ SI s') : sProp 𝕄) := by
  unfold hbmLeft kept
  iintro ⟨⟨Hu, H1, H4⟩, ⟨H2, H3⟩, HSI⟩
  ihave HR := (mem_read (m ((c : Thread nD τ).loc main_arg1)) s') $$ [H1 HSI]
  · isplitl [H1]; · iexact H1
    iexact HSI
  icases HR with ⟨%h1, HSI⟩
  ihave HR := (mem_read (m ((c : Thread nD τ).loc main_arg2)) s') $$ [H2 HSI]
  · isplitl [H2]; · iexact H2
    iexact HSI
  icases HR with ⟨%h2, HSI⟩
  ihave HR := (mem_read (m ((c : Thread nD τ).loc main_arg3)) s') $$ [H3 HSI]
  · isplitl [H3]; · iexact H3
    iexact HSI
  icases HR with ⟨%h3, HSI⟩
  ihave HR := (mem_read (m ((c : Thread nD τ).loc main_arg4)) s') $$ [H4 HSI]
  · isplitl [H4]; · iexact H4
    iexact HSI
  icases HR with ⟨%h4, HSI⟩
  imod (Pipeline.unscopedSems0_read (X := unscopedSems0 c) (c := c) fupd_intro s') $$ [Hu HSI] with HR
  · isplitl [Hu]; · iexact Hu
    iexact HSI
  icases HR with ⟨%h0, HSI⟩
  imodintro
  isplitr; · ipureintro; exact ⟨h0, h1, h2, h3, h4⟩
  iexact HSI

/-! ### The run -/

/-- The result array after the run. -/
def outV (c : Dev nD) : Buf (Elt F) ((c : Thread nD τ).loc main_v1) := outAt m c

theorem final_in (c : Dev nD) : (dats m ρ 0 c).arrAt (0 : Fin 2) cfg0.N = m ((c : Thread nD τ).loc main_arg0) :=
  (dats (F := F) m ρ 0 c).arrAt_in (0 : Fin 2) rfl _
theorem final_out (c : Dev nD) : (dats m ρ 0 c).arrAt (1 : Fin 2) cfg0.N = outV m c := by
  refine (dats m ρ 0 c).arrAt_eq_of_after_last 1 t0_0 (by decide +kernel) _ fun j => ?_
  rfl

/-- What a final state holds: on every device its result, the arguments unchanged. -/
def Post (r : PUnit × MemSt nD τ sig (Elt F)) : Prop := ∀ c : Dev nD,
  r.2.mem ((c : Thread nD τ).loc main_v1) = outV m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)

set_option maxRecDepth 100000 in
/-- From any memory with zero counters, every weakly fair execution on the four devices terminates; every final state has each
    device's result at its computed contents, the arguments unchanged, every semaphore counter at zero. -/
theorem run_main : θ_run defs (onTc (τ := τ) (main (F := F))) (s₀ m ρ) (fun r => Post m r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c)) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      ihave HX := (own_pair_emb _ _ _) $$ HX
      icases HX with ⟨HX, -⟩
      imod (show iprop(own ((Emb.inl.trans embR).toFun (initOf exCells exToks))) ⊢ (iprop(|==> bigSep Finset.univ (G m)) : sProp 𝕄) from fund_ex m) $$ HX with HG
      imodintro
      isplitl [HP] <;> iassumption)
    (hglob := glob m)
    (hA := fun _ _ => rfl) (hpf := fun _ k => k.elim0)
    (X := start m) (Y := fun c => iprop(unscopedSems0 c ∗ hbmLeft m c)) (Z := kept m)
    (hX := start_intro m ρ) (hin := phi0_intro m ρ) (hout := phi1_exit m ρ)
    (QY := QY m) (hY := read_end m)
    (hQ := fun _ h hs => ⟨fun c => ⟨((h c).1 1).trans (final_out m ρ c), ((h c).1 0).trans (final_in m ρ c), (h c).2.2.2⟩,
      sem_eq_zero hs fun c => (h c).2.2.1⟩)

end Cert.KernelIdeal.P
-- ==== Proof.Frames.lean ====
/-
  The three frames: every execution ends, the arguments unchanged and every semaphore at zero.
-/
module

public import proofs.«01_k».proof.Defs
public import proofs.«01_k».proof.Proof.Same
public import proofs.«01_k».proof.Proof.Launch
public import proofs.«01_k».proof.Proof.Gen.ReferenceIdeal
public import proofs.«01_k».proof.Proof.Gen.ReferenceIdeal.Run
public import Idealize.ShloMosaic.Lib.Quiescent

@[expose] public section

set_option maxRecDepth 100000
set_option maxHeartbeats 1000000

noncomputable section

namespace Cert.Proof

open Idealize.ShloMosaic Idealize.SL.Sem
open Cert.Same

instance : Cert.ReferenceIdeal.Facts := Cert.ReferenceIdeal.Gen.facts

/-- The kernel ends with its arguments unchanged and every semaphore at zero. -/
theorem frame_kernel : Cert.quiescent_Kernel := by
  intro m g _
  rw [defs_eq, main_eq]
  exact (θ_run Cert.KernelIdeal.defs _ _).mono (fun r h => ⟨fun c => (h.1 c).2, h.2⟩) (Cert.KernelIdeal.P.run_main (F := Bits) m g)

/-- The idealized kernel ends with its arguments unchanged and every semaphore at zero. -/
theorem frame_kernelIdeal : Cert.quiescent_KernelIdeal := fun m g _ =>
  (θ_run Cert.KernelIdeal.defs _ _).mono (fun r h => ⟨fun c => (h.1 c).2, h.2⟩) (Cert.KernelIdeal.P.run_main (F := Ideal) m g)

/-- The reference ends with its arguments unchanged; it declares no semaphore. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

end Cert.Proof
-- ==== Proof.Att.lean ====
/-
  One head of one group of query rows: scores, softmax, weighted values; the whole of a device's partial product as
  one function of the head. Then what these are at an index, over the extended reals.
-/
module

public import proofs.«01_k».proof.Proof.Vals
public import Idealize.ShloMosaic.Lib.Pointwise

@[expose] public section

set_option maxRecDepth 16384

noncomputable section

namespace Cert.KernelIdeal.P

open Cert.KernelIdeal Cert.KernelIdeal.Gen
open Idealize.ShloMosaic
open scoped BigOperators

variable {F : FTy → Type} [FloatOps F]

/-- Attention of 128 query rows over 1408 keys: one head. -/
def att0 (q : FVec F S128x128 .f32) (k v : FVec F S1408x128 .f32) : FVec F S128x128 .f32 :=
  let s := mulf (matmul dot_S128x128_S1408x128_S128x1408_1_1_0_0_n_n none q k (constant S128x1408 .f32 0x00000000#32)) (broadcast S128x1408 (Scalar.ofBits .f32 0x3DB504F3#32))
  let p := exp (subf s (broadcastTo S128x1408 (shapeCast S128x1 (multiReduction .maximumf [1] S128 s 0xFF800000#32 reduces_S128x1408_S128 (.inl rfl) rfl) shapeCasts_S128_S128x1) broadcasts_S128x1_S128x1408))
  let w := divf p (broadcastTo S128x1408 (shapeCast S128x1 (multiReduction .add [1] S128 p 0x00000000#32 reduces_S128x1408_S128 (.inl rfl) rfl) shapeCasts_S128_S128x1) broadcasts_S128x1_S128x1408)
  matmul dot_S128x1408_S1408x128_S128x128_1_0_0_1_n_n none w v (constant S128x128 .f32 0x00000000#32)

/-- Attention of 64 query rows over 1472 keys: one head. -/
def att1 (q : FVec F S64x128 .f32) (k v : FVec F S1472x128 .f32) : FVec F S64x128 .f32 :=
  let s := mulf (matmul dot_S64x128_S1472x128_S64x1472_1_1_0_0_n_n none q k (constant S64x1472 .f32 0x00000000#32)) (broadcast S64x1472 (Scalar.ofBits .f32 0x3DB504F3#32))
  let p := exp (subf s (broadcastTo S64x1472 (shapeCast S64x1 (multiReduction .maximumf [1] S64 s 0xFF800000#32 reduces_S64x1472_S64 (.inl rfl) rfl) shapeCasts_S64_S64x1) broadcasts_S64x1_S64x1472))
  let w := divf p (broadcastTo S64x1472 (shapeCast S64x1 (multiReduction .add [1] S64 p 0x00000000#32 reduces_S64x1472_S64 (.inl rfl) rfl) shapeCasts_S64_S64x1) broadcasts_S64x1_S64x1472)
  matmul dot_S64x1472_S1472x128_S64x128_1_0_0_1_n_n none w v (constant S64x128 .f32 0x00000000#32)

theorem slQ (a : ℕ) (ha : a ≤ 192) (h : Fin 8) : S256x1024.Slices ![a, 128 * h.val] S64x128 :=
  ⟨rfl, fun i => by have := h.isLt; fin_cases i <;> simp <;> omega⟩
theorem slK0 (h : Fin 8) : S1408x1024.Slices ![0, 128 * h.val] S1408x128 :=
  ⟨rfl, fun i => by have := h.isLt; fin_cases i <;> simp <;> omega⟩
theorem slK1 (h : Fin 8) : S1472x1024.Slices ![0, 128 * h.val] S1472x128 :=
  ⟨rfl, fun i => by have := h.isLt; fin_cases i <;> simp <;> omega⟩

/-- Head `h` of the queries of rows `a .. a + 63`. -/
def qs (a : ℕ) (ha : a ≤ 192) (q : FVec F S256x1024 .f32) (h : Fin 8) : FVec F S64x128 .f32 := extractStridedSlice S64x128 ![a, 128 * h.val] q (slQ a ha h)
def ks0 (k : Vec F S1408x1024 .f32) (h : Fin 8) : FVec F S1408x128 .f32 := extractStridedSlice S1408x128 ![0, 128 * h.val] k (slK0 h)
def ks1 (k : Vec F S1472x1024 .f32) (h : Fin 8) : FVec F S1472x128 .f32 := extractStridedSlice S1472x128 ![0, 128 * h.val] k (slK1 h)

/-- Head `h` of group 0 (query rows 0–63 and 192–255), and of a group of the 64 query rows from `a`. -/
def hd0 (q : FVec F S256x1024 .f32) (k v : Vec F S1408x1024 .f32) (h : Fin 8) : FVec F S128x128 .f32 :=
  att0 (concatenate S128x128 0 [⟨S64x128, qs 0 (by decide) q h⟩, ⟨S64x128, qs 192 (by decide) q h⟩] concatenates_S64x128_S64x128_S128x128_d0) (ks0 k h) (ks0 v h)
def hd1 (a : ℕ) (ha : a ≤ 192) (q : FVec F S256x1024 .f32) (k v : Vec F S1472x1024 .f32) (h : Fin 8) : FVec F S64x128 .f32 :=
  att1 (qs a ha q h) (ks1 k h) (ks1 v h)

/-- Head `h` of all 256 query rows. -/
def row4 (q : FVec F S256x1024 .f32) (k0 v0 : Vec F S1408x1024 .f32) (k1 v1 k2 v2 : Vec F S1472x1024 .f32) (h : Fin 8) : FVec F S256x128 .f32 :=
  concatenate S256x128 0 [⟨S64x128, extractStridedSlice S64x128 ![0, 0] (hd0 q k0 v0 h) slices_S128x128_o0_0_S64x128⟩, ⟨S64x128, hd1 64 (by decide) q k1 v1 h⟩, ⟨S64x128, hd1 128 (by decide) q k2 v2 h⟩,
    ⟨S64x128, extractStridedSlice S64x128 ![64, 0] (hd0 q k0 v0 h) slices_S128x128_o64_0_S64x128⟩] concatenates_S64x128_S64x128_S64x128_S64x128_S256x128_d0

/-- Eight heads side by side. -/
def cat8 (p : Fin 8 → FVec F S256x128 .f32) : FVec F S256x1024 .f32 :=
  concatenate S256x1024 1 [⟨S256x128, p 0⟩, ⟨S256x128, p 1⟩, ⟨S256x128, p 2⟩, ⟨S256x128, p 3⟩, ⟨S256x128, p 4⟩, ⟨S256x128, p 5⟩, ⟨S256x128, p 6⟩, ⟨S256x128, p 7⟩] concatenates_S256x128_S256x128_S256x128_S256x128_S256x128_S256x128_S256x128_S256x128_S256x1024_d1

/-- A device's partial product, head by head. -/
theorem accOf_eq (q : FVec F S256x1024 .f32) (k0 v0 : Vec F S1408x1024 .f32) (k1 v1 k2 v2 : Vec F S1472x1024 .f32) (wo : Vec F S1024x1024 .f32) :
    accOf q k0 v0 k1 v1 k2 v2 wo = shapeCast S256x1024 (truncf .bf16 (matmul dot_S256x1024_S1024x1024_S256x1024_1_0_0_1_n_n none (cat8 (row4 q k0 v0 k1 v1 k2 v2)) wo (constant S256x1024 .f32 0x00000000#32)) bitsLt_bf16_f32) shapeCasts_S256x1024_S256x1024 := rfl

/-! ### At an index -/

/-- Softmax-weighted sum of `v` by the scores `s`. -/
def attS {n : ℕ} (s v : Fin n → EReal) : EReal :=
  ∑ k, Ideal.div (Ideal.exp (s k - Finset.fold max ⊥ s Finset.univ)) (∑ k', Ideal.exp (s k' - Finset.fold max ⊥ s Finset.univ)) * v k

/-- The scale of the scores. -/
def scl : EReal := Ideal.ofBits .f32 0x3DB504F3#32

theorem ninf : Ideal.ofBits .f32 0xFF800000#32 = ⊥ := by
  simp [Ideal.ofBits, Ideal.ieee]

theorem ix2_eq {n k : ℕ} (a : Fin n) (b : Fin k) : (ix2 a b : (⟨2, ![n, k]⟩ : Shape).Idx) = Idealize.ShloMosaic.ix2 a b := by
  funext x; fin_cases x <;> rfl

theorem att0_apply (q : FVec Ideal S128x128 .f32) (k v : FVec Ideal S1408x128 .f32) (r : Fin 128) (d : Fin 128) :
    att0 q k v (ix2 r d) = attS (fun j : Fin 1408 => (∑ e : Fin 128, q (ix2 r e) * k (ix2 j e)) * scl) (fun j => v (ix2 j d)) := by
  unfold att0 attS scl
  simp only [ix2_eq, pointwise, ninf, zero_add]
  rfl

theorem att1_apply (q : FVec Ideal S64x128 .f32) (k v : FVec Ideal S1472x128 .f32) (r : Fin 64) (d : Fin 128) :
    att1 q k v (ix2 r d) = attS (fun j : Fin 1472 => (∑ e : Fin 128, q (ix2 r e) * k (ix2 j e)) * scl) (fun j => v (ix2 j d)) := by
  unfold att1 attS scl
  simp only [ix2_eq, pointwise, ninf, zero_add]
  rfl

theorem ix2_congr {α : Type} {n k : ℕ} (f : (⟨2, ![n, k]⟩ : Shape).Idx → α) {a a' : Fin n} {b b' : Fin k} (ha : a.val = a'.val) (hb : b.val = b'.val) :
    f (Idealize.ShloMosaic.ix2 a b) = f (Idealize.ShloMosaic.ix2 a' b') := by
  rw [Fin.ext ha, Fin.ext hb]

/-- Column `128 h + d`, of head `h`. -/
def hcol (h : Fin 8) (d : Fin 128) : Fin 1024 := ⟨128 * h.val + d.val, by omega⟩

theorem cat8_apply (p : Fin 8 → FVec Ideal S256x128 .f32) (r : Fin 256) (h : Fin 8) (d : Fin 128)  :
    cat8 p (ix2 r (hcol h d)) = p h (ix2 r d) := by
  unfold cat8
  simp only [ix2_eq, pointwise]
  have := d.isLt
  fin_cases h <;> simp [hcol] <;> (repeat rw [dif_neg (by omega)]) <;> (try rw [dif_pos (by omega)]) <;> apply ix2_congr <;> simp <;> omega
theorem qs_apply (a : ℕ) (ha : a ≤ 192) (q : FVec Ideal S256x1024 .f32) (h : Fin 8) (r : Fin 64) (d : Fin 128) :
    qs a ha q h (ix2 r d) = q (ix2 (⟨a + r.val, by omega⟩ : Fin 256) (hcol h d)) := by
  unfold qs
  simp only [ix2_eq, pointwise]
  exact ix2_congr q rfl rfl
theorem ks0_apply (k : Vec Ideal S1408x1024 .f32) (h : Fin 8) (r : Fin 1408) (d : Fin 128) : ks0 k h (ix2 r d) = k (ix2 r (hcol h d)) := by
  unfold ks0
  simp only [ix2_eq, pointwise]
  exact ix2_congr k (Nat.zero_add _) rfl
theorem ks1_apply (k : Vec Ideal S1472x1024 .f32) (h : Fin 8) (r : Fin 1472) (d : Fin 128) : ks1 k h (ix2 r d) = k (ix2 r (hcol h d)) := by
  unfold ks1
  simp only [ix2_eq, pointwise]
  exact ix2_congr k (Nat.zero_add _) rfl

/-- The softmax-weighted values of the query row `r` of head `h` over the keys `k` and values `v`. -/
def ctxAt {n : ℕ} (q : S256x1024.Idx → EReal) (k v : (⟨2, ![n, 1024]⟩ : Shape).Idx → EReal) (r : Fin 256) (h : Fin 8) (d : Fin 128) : EReal :=
  attS (fun j : Fin n => (∑ e : Fin 128, q (ix2 r (hcol h e)) * k (ix2 j (hcol h e))) * scl) (fun j => v (ix2 j (hcol h d)))

theorem ctxAt_congr {n : ℕ} (q : S256x1024.Idx → EReal) (k v : (⟨2, ![n, 1024]⟩ : Shape).Idx → EReal) {r r' : Fin 256} (h : Fin 8) {d d' : Fin 128} (hr : r.val = r'.val) (hd : d.val = d'.val) :
    ctxAt q k v r h d = ctxAt q k v r' h d' := by rw [Fin.ext hr, Fin.ext hd]

theorem hd1_apply (a : ℕ) (ha : a ≤ 192) (q : FVec Ideal S256x1024 .f32) (k v : Vec Ideal S1472x1024 .f32) (h : Fin 8) (r : Fin 64) (d : Fin 128) :
    hd1 a ha q k v h (ix2 r d) = ctxAt q k v (⟨a + r.val, by omega⟩ : Fin 256) h d := by
  unfold hd1 ctxAt
  rw [att1_apply]
  simp only [qs_apply, ks1_apply]
/-- The query row that row `r` of group 0 is. -/
def row0 (r : Fin 128) : Fin 256 := if h : r.val < 64 then ⟨r.val, by omega⟩ else ⟨128 + r.val, by omega⟩
theorem catq_apply (q : FVec Ideal S256x1024 .f32) (h : Fin 8)  (r : Fin 128) (d : Fin 128) :
   (concatenate S128x128 0 [⟨S64x128, qs 0 (by decide) q h⟩, ⟨S64x128, qs 192 (by decide) q h⟩] concatenates_S64x128_S64x128_S128x128_d0) (ix2 r d) = q (ix2 (row0 r) (hcol h d)) := by
  unfold qs row0
  simp only [ix2_eq, pointwise]
  by_cases h1 : r.val < 64
  · rw [dif_pos h1, dif_pos h1]
    exact ix2_congr q (Nat.zero_add _) rfl
  · rw [dif_neg h1, dif_neg h1]
    refine ix2_congr q ?_ rfl
    simp; omega
theorem row0_val (r : Fin 128) : (row0 r).val = if r.val < 64 then r.val else 128 + r.val := by
  unfold row0; split_ifs <;> rfl
theorem hd0_apply (q : FVec Ideal S256x1024 .f32) (k v : Vec Ideal S1408x1024 .f32) (h : Fin 8) (r : Fin 128) (d : Fin 128) :
    hd0 q k v h (ix2 r d) = ctxAt q k v (row0 r) h d := by
  unfold hd0 ctxAt
  rw [att0_apply]
  simp only [catq_apply, ks0_apply]

theorem row4_apply (q : FVec Ideal S256x1024 .f32) (k0 v0 : Vec Ideal S1408x1024 .f32) (k1 v1 k2 v2 : Vec Ideal S1472x1024 .f32) (h : Fin 8) (r : Fin 256) (d : Fin 128) :
    row4 q k0 v0 k1 v1 k2 v2 h (ix2 r d) =
      if 64 ≤ r.val ∧ r.val < 128 then ctxAt q k1 v1 r h d else if 128 ≤ r.val ∧ r.val < 192 then ctxAt q k2 v2 r h d else ctxAt q k0 v0 r h d := by
  unfold row4
  simp only [ix2_eq, pointwise]
  simp only [← ix2_eq, hd0_apply, hd1_apply]
  simp
  have hr := r.isLt
  by_cases h1 : r.val < 64
  · rw [dif_pos h1]
    refine Eq.trans ?_ ((if_neg (by omega)).trans (if_neg (by omega))).symm
    refine ctxAt_congr q k0 v0 h ?_ rfl
    rw [row0_val, if_pos h1]
  rw [dif_neg h1]
  by_cases h2 : r.val - 64 < 64
  · rw [dif_pos h2]
    refine Eq.trans ?_ (if_pos (by omega)).symm
    refine ctxAt_congr q k1 v1 h ?_ rfl
    show 64 + (r.val - 64) = r.val; omega
  rw [dif_neg h2]
  by_cases h3 : r.val - 64 - 64 < 64
  · rw [dif_pos h3]
    refine Eq.trans ?_ ((if_neg (by omega)).trans (if_pos (by omega))).symm
    refine ctxAt_congr q k2 v2 h ?_ rfl
    show 128 + (r.val - 64 - 64) = r.val; omega
  rw [dif_neg h3]
  refine Eq.trans ?_ ((if_neg (by omega)).trans (if_neg (by omega))).symm
  refine ctxAt_congr q k0 v0 h ?_ rfl
  rw [row0_val]
  show (if 64 + (r.val - 64 - 64 - 64) < 64 then _ else 128 + (64 + (r.val - 64 - 64 - 64))) = r.val
  rw [if_neg (by omega)]; omega

/-- The head of column `f`, and its place in the head. -/
def hd (f : Fin 1024) : Fin 8 := ⟨f.val / 128, by omega⟩
def inHd (f : Fin 1024) : Fin 128 := ⟨f.val % 128, by omega⟩
theorem hcol_hd (f : Fin 1024) : hcol (hd f) (inHd f) = f := Fin.ext (by show 128 * (f.val / 128) + f.val % 128 = f.val; omega)

/-- The softmax-weighted values of query row `r` at column `f`, by the group of the row. -/
def ctx4 (q : S256x1024.Idx → EReal) (k0 v0 : S1408x1024.Idx → EReal) (k1 v1 k2 v2 : S1472x1024.Idx → EReal) (r : Fin 256) (f : Fin 1024) : EReal :=
  if 64 ≤ r.val ∧ r.val < 128 then ctxAt q k1 v1 r (hd f) (inHd f) else if 128 ≤ r.val ∧ r.val < 192 then ctxAt q k2 v2 r (hd f) (inHd f) else ctxAt q k0 v0 r (hd f) (inHd f)

/-- A device's partial product at an index. -/
theorem accOf_apply (q : FVec Ideal S256x1024 .f32) (k0 v0 : Vec Ideal S1408x1024 .f32) (k1 v1 k2 v2 : Vec Ideal S1472x1024 .f32) (wo : Vec Ideal S1024x1024 .f32)
    (r : Fin 256) (e : Fin 1024) :
    accOf q k0 v0 k1 v1 k2 v2 wo (ix2 r e) = ∑ f : Fin 1024, ctx4 q k0 v0 k1 v1 k2 v2 r f * wo (ix2 f e) := by
  have hc : ∀ f : Fin 1024, cat8 (row4 q k0 v0 k1 v1 k2 v2) (ix2 r f) = ctx4 q k0 v0 k1 v1 k2 v2 r f := fun f => by
    conv_lhs => rw [← hcol_hd f]
    rw [cat8_apply, row4_apply]; rfl
  rw [accOf_eq]
  simp only [← hc]
  generalize cat8 (row4 q k0 v0 k1 v1 k2 v2) = x
  simp only [ix2_eq, pointwise, zero_add]

end Cert.KernelIdeal.P
-- ==== Proof.KVal.lean ====
/-
  What the kernel computes, at an index: the arrays a device reads in terms of its arguments, its partial product,
  the sum over the devices.
-/
module

public import proofs.«01_k».proof.Proof.Att
public import Idealize.ShloMosaic.Lib.VecWindow

@[expose] public section

set_option maxRecDepth 16384

noncomputable section

namespace Cert.KernelIdeal.P

open Cert.KernelIdeal Cert.KernelIdeal.Gen
open Idealize.ShloMosaic
open Idealize.ShloMosaic.TcCoe
open scoped BigOperators

theorem kM_read (f : S1x4096x8x128.Idx → EReal) (t : Fin 4096) (h : Fin 8) (e : Fin 128) :
    kM.view.read (Elt Ideal) f (ix2 t (hcol h e)) = f (ix4 0 t h e) := by
  have h0 : kM.view.read (Elt Ideal) f = shapeCast S4096x1024 (shapeCast S4096x8x128 f (by decide)) (by decide) := by
    funext y
    exact congrArg f (Rect.emb_unit_full inb_S1x4096x8x128_S1x4096x8x128_0_0_0_0 _)
  rw [h0]
  simp only [ix2_eq, pointwise]
  have h1 : (⟨(hcol h e).val / 128, by have := (hcol h e).isLt; omega⟩ : Fin 8) = h := Fin.ext (by show (128 * h.val + e.val) / 128 = h.val; omega)
  have h2 : (⟨(hcol h e).val % 128, by omega⟩ : Fin 128) = e := Fin.ext (by show (128 * h.val + e.val) % 128 = e.val; omega)
  rw [h1, h2]

theorem vM_read (f : S1x4096x8x128.Idx → EReal) (t : Fin 4096) (h : Fin 8) (e : Fin 128) :
    vM.view.read (Elt Ideal) f (ix2 t (hcol h e)) = f (ix4 0 t h e) := by
  have h0 : vM.view.read (Elt Ideal) f = shapeCast S4096x1024 (shapeCast S4096x8x128 f (by decide)) (by decide) := by
    funext y
    exact congrArg f (Rect.emb_unit_full inb_S1x4096x8x128_S1x4096x8x128_0_0_0_0 _)
  rw [h0]
  simp only [ix2_eq, pointwise]
  have h1 : (⟨(hcol h e).val / 128, by have := (hcol h e).isLt; omega⟩ : Fin 8) = h := Fin.ext (by show (128 * h.val + e.val) / 128 = h.val; omega)
  have h2 : (⟨(hcol h e).val % 128, by omega⟩ : Fin 128) = e := Fin.ext (by show (128 * h.val + e.val) % 128 = e.val; omega)
  rw [h1, h2]

theorem off1_eq : ∀ c : Dev nD, k0_off1 c = ![0, 1024 * c.val] := by decide +kernel
theorem off2_eq : ∀ c : Dev nD, k0_off2 c = ![1024 * c.val, 0] := by decide +kernel

variable (m : (ℓ : Loc nD τ sig) → Buf (Elt Ideal) ℓ)

/-- The partial product of device `d`. -/
def rsA (d : Dev nD) : S256x1024.Idx → EReal := rsSrc m d

/-- Column (or row) `f` of device `c`'s block. -/
def dcol (c : Dev nD) (f : Fin 1024) : Fin 4096 := ⟨1024 * c.val + f.val, by have := c.isLt; simp only [nD] at this; omega⟩

theorem wqV_apply (c : Dev nD) (t f : Fin 1024) : wqV m c (ix2 t f) = m ((c : Thread nD τ).loc main_arg1) (ix2 t (dcol c f)) := by
  show m ((c : Thread nD τ).loc main_arg1) ((Rect.unit (s := S1024x4096) (k0_off1 c) S1024x1024.size (k0_off1_inb c)).emb (ix2 t f)) = _
  congr 1
  funext a
  apply Fin.ext
  have h (a : Fin 2) : k0_off1 c a = ![0, 1024 * c.val] a := congrFun (off1_eq c) a
  fin_cases a
  · show k0_off1 c 0 + 1 * t.val = t.val
    rw [h]; simp
  · show k0_off1 c 1 + 1 * f.val = 1024 * c.val + f.val
    rw [h]; simp

theorem woV_apply (c : Dev nD) (t f : Fin 1024) : woV m c (ix2 f t) = m ((c : Thread nD τ).loc main_arg4) (ix2 (dcol c f) t) := by
  show m ((c : Thread nD τ).loc main_arg4) ((Rect.unit (s := S4096x1024) (k0_off2 c) S1024x1024.size (k0_off2_inb c)).emb (ix2 f t)) = _
  congr 1
  funext a
  apply Fin.ext
  have h (a : Fin 2) : k0_off2 c a = ![1024 * c.val, 0] a := congrFun (off2_eq c) a
  fin_cases a
  · show k0_off2 c 0 + 1 * f.val = 1024 * c.val + f.val
    rw [h]; simp
  · show k0_off2 c 1 + 1 * t.val = t.val
    rw [h]; simp

theorem xstg_apply (c : Dev nD) (i : Fin 256) (f : Fin 1024) : xstg m c (ix3 0 i f) = m ((c : Thread nD τ).loc main_arg0) (ix3 0 i f) := by
  show m ((c : Thread nD τ).loc main_arg0) ((win0_0.blk (0 : Fin 1)).view.emb (ix3 0 i f)) = _
  congr 1
  funext a
  apply Fin.ext
  fin_cases a
  · show 0 * 1 + 1 * 0 = 0
    rfl
  · show 0 * 256 + 1 * i.val = i.val
    omega
  · show 0 * 1024 + 1 * f.val = f.val
    omega

theorem q_apply (x : Vec Ideal S1x256x1024 .f32) (w : Vec Ideal S1024x1024 .f32) (i : Fin 256) (e : Fin 1024) :
    k0_pay2 x w (ix2 i e) = ∑ f : Fin 1024, x (ix3 0 i f) * w (ix2 f e) := by
  unfold k0_pay2
  simp only [ix2_eq, pointwise, zero_add]

theorem red_apply (c : Dev nD) (i j : Fin 256) :
    redOf m c (ix2 i j) = rsA m c (ix2 i (chunkCol c j)) + rsA m (rp c 0) (ix2 i (chunkCol c j)) + rsA m (rp c 1) (ix2 i (chunkCol c j)) + rsA m (rp c 2) (ix2 i (chunkCol c j)) := by
  unfold redOf k0_pay41 rsA
  simp only [ix2_eq, pointwise]
  rfl

theorem sum_dev (c : Dev nD) (g : Dev nD → EReal) : g c + g (rp c 0) + g (rp c 1) + g (rp c 2) = ∑ d : Dev nD, g d := by
  show _ = ∑ d : Fin 4, g d
  rw [Fin.sum_univ_four]
  have : ∀ c : Dev nD, (c = 0 ∨ c = 1 ∨ c = 2 ∨ c = 3) := by decide
  rcases this c with h | h | h | h <;> subst h
  · show g 0 + g 3 + g 2 + g 1 = _; abel
  · show g 1 + g 0 + g 3 + g 2 = _; abel
  · show g 2 + g 1 + g 0 + g 3 = _; abel
  · show g 3 + g 2 + g 1 + g 0 = _; abel

/-- The kernel's result on any device: the sum over the devices of their partial products. -/
theorem out_apply (c : Dev nD) (i : Fin 256) (j : Fin 1024) : outAt m c (ix3 0 i j) = ∑ d : Dev nD, rsA m d (ix2 i j) := by
  have key : ∀ e : Dev nD, e.val = j.val / 256 → redOf m e (ix2 i (⟨j.val % 256, Nat.mod_lt _ (by decide)⟩ : Fin 256)) = ∑ d : Dev nD, rsA m d (ix2 i j) := fun e he => by
    have hc : chunkCol e (⟨j.val % 256, Nat.mod_lt _ (by decide)⟩ : Fin 256) = j := Fin.ext (by show 256 * e.val + j.val % 256 = j.val; omega)
    rw [red_apply, hc]
    exact sum_dev e (fun d => rsA m d (ix2 i j))
  unfold outAt
  simp only
  split_ifs with h
  · rw [← key c (congrArg Fin.val h).symm]; rfl
  · rw [← key (⟨j.val / 256, by have := j.isLt; simp only [nD]; omega⟩ : Dev nD) rfl]
    unfold agSrc k0_pay42
    simp only [ix2_eq, pointwise]
    rfl

end Cert.KernelIdeal.P
-- ==== Proof.RMask.lean ====
/-
  The reference's mask: which keys a query row attends to, by the blocks of 64 the row and the key lie in.
-/
module

public import proofs.«01_k».proof.Proof.Gen.ReferenceIdeal.Run
public import Idealize.ShloMosaic.Lib.Pointwise

@[expose] public section

set_option maxRecDepth 16384

noncomputable section

namespace Cert.ReferenceIdeal.P

open Cert.ReferenceIdeal Cert.ReferenceIdeal.Gen
open Idealize.ShloMosaic

/-- A query of block `a` attends to a key of block `b`: its own block, block 0, and the blocks at distances that 3 divides. -/
def Kept (a b : ℕ) : Prop := a = b ∨ b = 0 ∨ (a + b) % 3 = 0
instance (a b : ℕ) : Decidable (Kept a b) := inferInstanceAs (Decidable (_ ∨ _ ∨ _))

/-- The quotients by 64, rounded down, of a vector of integers. -/
def div64 (S : Shape) (h : S_.BroadcastsInDim S (![] : Fin 0 → Fin S.rank)) (v : IVec S 32) : IVec S 32 :=
  (select (andi (cmpi .ne (signi v) (broadcastInDim S ![] h (signi (id (constantI S_ 32 64#32))))) (cmpi .ne (Host.remsi v (broadcastInDim S ![] h (id (constantI S_ 32 64#32)))) (broadcastInDim S ![] h (constantI S_ 32 0#32)))) (subi (Host.divsi v (broadcastInDim S ![] h (id (constantI S_ 32 64#32)))) (broadcastInDim S ![] h (constantI S_ 32 1#32))) (Host.divsi v (broadcastInDim S ![] h (id (constantI S_ 32 64#32)))))
/-- The block of each query row, of each key. -/
def qBlk : IVec S256 32 := div64 S256 bcast_S_S256 (iotaInDim S256 32 0)
def kBlk : IVec S4096 32 := div64 S4096 bcast_S_S4096 (iotaInDim S4096 32 0)

def qMat : IVec S256x4096 32 := (broadcastInDim S256x4096 ![0, 1] bcast_S256x1_S256x4096_0_1 (broadcastInDim S256x1 ![0] bcast_S256_S256x1_0 qBlk))
def kMat : IVec S256x4096 32 := (broadcastInDim S256x4096 ![0, 1] bcast_S1x4096_S256x4096_0_1 (broadcastInDim S1x4096 ![1] bcast_S4096_S1x4096_1 kBlk))
def three : IVec S_ 32 := (select (cmpi .eq (id (constantI S_ 32 3#32)) (constantI S_ 32 0#32)) (constantI S_ 32 1#32) (id (constantI S_ 32 3#32)))
def remMat : IVec S256x4096 32 := (Host.remsi (addi qMat kMat) (broadcastInDim S256x4096 ![] bcast_S_S256x4096 three))
/-- The mask. -/
def maskR : IVec S256x4096 1 :=
  (ori (ori (cmpi .eq qMat kMat) (broadcastInDim S256x4096 ![0, 1] bcast_S1x4096_S256x4096_0_1 (cmpi .eq (broadcastInDim S1x4096 ![1] bcast_S4096_S1x4096_1 kBlk) (broadcastInDim S1x4096 ![] bcast_S_S1x4096 (constantI S_ 32 0#32))))) (cmpi .eq (select (andi (cmpi .ne (cmpi .slt remMat (broadcastInDim S256x4096 ![] bcast_S_S256x4096 (constantI S_ 32 0#32))) (broadcastInDim S256x4096 ![] bcast_S_S256x4096 (cmpi .slt three (constantI S_ 32 0#32)))) (cmpi .ne remMat (broadcastInDim S256x4096 ![] bcast_S_S256x4096 (constantI S_ 32 0#32)))) (addi remMat (broadcastInDim S256x4096 ![] bcast_S_S256x4096 three)) remMat) (broadcastInDim S256x4096 ![] bcast_S_S256x4096 (constantI S_ 32 0#32))))

/-- The quotient by 64 of one integer. -/
def div64S (v : BitVec 32) : BitVec 32 :=
  Scalar.select (IntOp.andi (IntOp.cmpi .ne (if v = 0 then 0 else if v.msb then -1 else 1) 1#32) (IntOp.cmpi .ne (IntOp.remsi .host v 64#32) 0#32))
    (IntOp.subi (IntOp.divsi .host v 64#32) 1#32) (IntOp.divsi .host v 64#32)
theorem div64S_eq : ∀ v : Fin 4096, div64S (BitVec.ofNat 32 v.val) = BitVec.ofNat 32 (v.val / 64) := by decide +kernel
theorem sgn64 : signi (id (constantI S_ 32 64#32)) = constantI S_ 32 1#32 := by
  funext i; exact (by decide : (if (64#32 : BitVec 32) = 0 then (0 : BitVec 32) else if (64#32 : BitVec 32).msb then -1 else 1) = 1#32)
theorem div64_apply (S : Shape) (h : S_.BroadcastsInDim S (![] : Fin 0 → Fin S.rank)) (v : IVec S 32) (j : S.Idx) : div64 S h v j = div64S (v j) := by
  unfold div64 div64S
  rw [sgn64]
  generalize hx : v j = x
  simp only [select, andi, cmpi, signi, Host.remsi, Host.divsi, subi, broadcastInDim, constantI, id, hx]
theorem qBlk_apply (i : Fin 256) : qBlk (ix1 i) = BitVec.ofNat 32 (i.val / 64) := by
  unfold qBlk; rw [div64_apply]; exact div64S_eq ⟨i.val, by omega⟩
theorem kBlk_apply (t : Fin 4096) : kBlk (ix1 t) = BitVec.ofNat 32 (t.val / 64) := by
  unfold kBlk; rw [div64_apply]; exact div64S_eq t

/-- The mask of one pair of blocks. -/
def maskS (a b : BitVec 32) : BitVec 1 :=
  let r := IntOp.remsi .host (IntOp.addi a b) 3#32
  IntOp.ori (IntOp.ori (IntOp.cmpi .eq a b) (IntOp.cmpi .eq b 0#32))
    (IntOp.cmpi .eq (Scalar.select (IntOp.andi (IntOp.cmpi .ne (IntOp.cmpi .slt r 0#32) (IntOp.cmpi .slt 3#32 0#32)) (IntOp.cmpi .ne r 0#32)) (IntOp.addi r 3#32) r) 0#32)
theorem maskS_eq : ∀ (a : Fin 4) (b : Fin 64), maskS (BitVec.ofNat 32 a.val) (BitVec.ofNat 32 b.val) = if Kept a.val b.val then 1#1 else 0#1 := by decide +kernel
theorem maskR_eq (i : Fin 256) (t : Fin 4096) : maskR (ix2 i t) = maskS (qBlk (ix1 i)) (kBlk (ix1 t)) := by
  unfold maskR remMat three qMat kMat maskS
  generalize qBlk = q
  generalize kBlk = k
  simp only [pointwise]
  rfl

/-- The mask at a query row and a key. -/
theorem maskR_apply (i : Fin 256) (t : Fin 4096) : maskR (ix2 i t) = if Kept (i.val / 64) (t.val / 64) then 1#1 else 0#1 := by
  rw [maskR_eq, qBlk_apply, kBlk_apply]
  exact maskS_eq ⟨i.val / 64, by omega⟩ ⟨t.val / 64, by omega⟩

/-- Every query row attends to some key. -/
def rowK : IVec S256 1 := (Host.reduce IntOp.ori maskR (constantI S_ 1 0#1) reducesTo_S256x4096_S256_d1 h_S_)

theorem rowK_apply (i : Fin 256) : rowK (ix1 i) = 1#1 := by
  unfold rowK
  simp only [pointwise, maskR_apply]
  have h : (Finset.univ : Finset (Fin 4096)) = insert 0 (Finset.univ.erase 0) := (Finset.insert_erase (Finset.mem_univ _)).symm
  rw [h, Finset.fold_insert (Finset.notMem_erase _ _), if_pos (show Kept (i.val / 64) ((0 : Fin 4096).val / 64) from Or.inr (Or.inl rfl))]
  exact (by decide : ∀ y : BitVec 1, IntOp.ori 1#1 y = 1#1) _

end Cert.ReferenceIdeal.P
-- ==== Proof.Soft.lean ====
/-
  Attention over a selection of the keys is attention over all of them with the scores of the others at minus infinity.
-/
module

public import proofs.«01_k».proof.Proof.Att

@[expose] public section

noncomputable section

namespace Cert.KernelIdeal.P

open Idealize.ShloMosaic
open scoped BigOperators

theorem fold_max_sup {n : ℕ} (s : Fin n → EReal) : Finset.fold max ⊥ s Finset.univ = Finset.univ.sup s := rfl

theorem exp_bot : Ideal.exp ⊥ = 0 := rfl
theorem exp_coe (x : ℝ) : Ideal.exp (x : EReal) = ((Real.exp x : ℝ) : EReal) := rfl

theorem div_zero_left {y : EReal} (hy : y ≠ 0) : Ideal.div 0 y = 0 := by
  unfold Ideal.div; rw [if_neg hy, zero_mul]

/-- The greatest of finitely many real scores, at least one, is real. -/
theorem sup_real {n : ℕ} (s : Fin n → EReal) (h : ∀ j, ∃ x : ℝ, s j = (x : EReal)) (hn : 0 < n) : ∃ x : ℝ, Finset.univ.sup s = (x : EReal) := by
  obtain ⟨j, _, hj⟩ := Finset.exists_mem_eq_sup (Finset.univ : Finset (Fin n)) ⟨⟨0, hn⟩, Finset.mem_univ _⟩ s
  rw [hj]; exact h j

/-- Attention over the keys `σ j` is attention over all keys, the scores of the others at minus infinity: `M` holds of exactly the keys `σ` selects. -/
theorem attS_select {n N : ℕ} (hn : 0 < n) (σ : Fin n → Fin N) (hσ : Function.Injective σ) (M : Fin N → Prop) [DecidablePred M]
    (hM : ∀ t, M t ↔ ∃ j, σ j = t) (s v : Fin N → EReal) (hs : ∀ t, ∃ x : ℝ, s t = (x : EReal)) :
    attS (fun j => s (σ j)) (fun j => v (σ j)) = attS (fun t => if M t then s t else ⊥) v := by
  unfold attS
  rw [fold_max_sup, fold_max_sup]
  have hsup : Finset.univ.sup (fun t => if M t then s t else ⊥) = Finset.univ.sup (fun j => s (σ j)) := by
    apply le_antisymm
    · refine Finset.sup_le fun t _ => ?_
      by_cases ht : M t
      · obtain ⟨j, rfl⟩ := (hM t).1 ht
        rw [if_pos ht]; exact Finset.le_sup (f := fun j => s (σ j)) (Finset.mem_univ j)
      · rw [if_neg ht]; exact bot_le
    · refine Finset.sup_le fun j _ => ?_
      have : (if M (σ j) then s (σ j) else ⊥) = s (σ j) := if_pos ((hM _).2 ⟨j, rfl⟩)
      rw [← this]; exact Finset.le_sup (f := fun t => if M t then s t else ⊥) (Finset.mem_univ (σ j))
  rw [hsup]
  obtain ⟨μ, hμ⟩ := sup_real (fun j => s (σ j)) (fun j => hs _) hn
  rw [hμ]
  have hout : ∀ t, ¬ M t → Ideal.exp ((if M t then s t else ⊥) - (μ : EReal)) = 0 := fun t ht => by
    rw [if_neg ht, EReal.bot_sub]; exact exp_bot
  -- a sum over all keys of terms that vanish off the selection is the sum over the selection
  have key : ∀ g : Fin N → EReal, (∀ t, ¬ M t → g t = 0) → ∑ t, g t = ∑ j, g (σ j) := fun g hg => by
    rw [← Finset.sum_image (s := Finset.univ) (g := σ) (f := g) (fun a _ b _ h => hσ h)]
    refine (Finset.sum_subset (Finset.subset_univ _) fun t _ ht => hg t fun hm => ht ?_).symm
    obtain ⟨j, rfl⟩ := (hM t).1 hm
    exact Finset.mem_image_of_mem _ (Finset.mem_univ j)
  have hin : ∀ j, (if M (σ j) then s (σ j) else ⊥) = s (σ j) := fun j => if_pos ((hM _).2 ⟨j, rfl⟩)
  have hsum : ∑ t, Ideal.exp ((if M t then s t else ⊥) - (μ : EReal)) = ∑ j, Ideal.exp (s (σ j) - (μ : EReal)) := by
    rw [key _ hout]
    exact Finset.sum_congr rfl fun j _ => by rw [hin]
  rw [hsum]
  have hexp : ∀ j, ∃ x : ℝ, 0 < x ∧ Ideal.exp (s (σ j) - (μ : EReal)) = (x : EReal) := fun j => by
    obtain ⟨x, hx⟩ := hs (σ j)
    exact ⟨Real.exp (x - μ), Real.exp_pos _, by rw [hx, ← EReal.coe_sub]; exact exp_coe _⟩
  have hpos : (∑ j, Ideal.exp (s (σ j) - (μ : EReal))) ≠ 0 := by
    have h0 : ∀ j ∈ (Finset.univ : Finset (Fin n)), (0 : EReal) ≤ Ideal.exp (s (σ j) - (μ : EReal)) := fun j _ => by
      obtain ⟨x, hx, he⟩ := hexp j
      rw [he]; exact_mod_cast hx.le
    obtain ⟨x, hx, he⟩ := hexp ⟨0, hn⟩
    have h1 := Finset.single_le_sum h0 (Finset.mem_univ (⟨0, hn⟩ : Fin n))
    rw [he] at h1
    have h2 : (0 : EReal) < (x : EReal) := by exact_mod_cast hx
    exact (h2.trans_le h1).ne'
  rw [key]
  · exact Finset.sum_congr rfl fun j _ => by simp only [hin]
  · intro t ht
    rw [hout t ht, div_zero_left hpos, zero_mul]

end Cert.KernelIdeal.P
-- ==== Proof.RVal.lean ====
/-
  What the reference computes, at an index: attention over all keys, the scores of the masked keys at minus infinity,
  then the product with `Wo`.
-/
module

public import proofs.«01_k».proof.Proof.RMask
public import proofs.«01_k».proof.Proof.Soft

@[expose] public section

set_option maxRecDepth 16384

noncomputable section

namespace Cert.ReferenceIdeal.P

open Cert.ReferenceIdeal Cert.ReferenceIdeal.Gen
open Idealize.ShloMosaic
open Cert.KernelIdeal.P (attS scl ninf)
open scoped BigOperators

variable {F : FTy → Type} [FloatOps F]

/-- The scaled scores. -/
def sc (x : FVec F S1x256x1024 .f32) (wq : FVec F S1024x4096 .f32) (k : FVec F S1x4096x32x128 .f32) : FVec F S1x32x256x4096 .f32 :=
  (mulf (Host.dotGeneral dot_S1x256x32x128_S1x4096x32x128_S1x32x256x4096_3_3_1_1_02_02 none (shapeCast _ (Host.dotGeneral dot_S1x256x1024_S1024x4096_S1x256x4096_2_0_01_1_n_n none x wq) shapeCasts_S1x256x4096_S1x256x32x128) k) (broadcastInDim S1x32x256x4096 ![] bcast_S_S1x32x256x4096 (constant S_ .f32 0x3DB504F3#32)))
/-- The scores, those of the masked keys at minus infinity. -/
def sm (s : FVec F S1x32x256x4096 .f32) : FVec F S1x32x256x4096 .f32 :=
  (select (broadcastInDim S1x32x256x4096 ![0, 1, 2, 3] bcast_S1x1x256x4096_S1x32x256x4096_0_1_2_3 (broadcastInDim S1x1x256x4096 ![2, 3] bcast_S256x4096_S1x1x256x4096_2_3 maskR)) s (broadcastInDim S1x32x256x4096 ![] bcast_S_S1x32x256x4096 (id (constant S_ .f32 0xFF800000#32))))
def pe (sm : FVec F S1x32x256x4096 .f32) : FVec F S1x32x256x4096 .f32 :=
  (Host.exp (subf (sm) (broadcastInDim S1x32x256x4096 ![0, 1, 2, 3] bcast_S1x32x256x1_S1x32x256x4096_0_1_2_3 (broadcastInDim S1x32x256x1 ![0, 1, 2] bcast_S1x32x256_S1x32x256x1_0_1_2 (Host.reduce FloatOps.maximumf (sm) (constant S_ .f32 0xFF800000#32) reducesTo_S1x32x256x4096_S1x32x256_d3 h_S_)))))
/-- The weights. -/
def wt (pe : FVec F S1x32x256x4096 .f32) : FVec F S1x32x256x4096 .f32 :=
  (select (broadcastInDim S1x32x256x4096 ![0, 1, 2, 3] bcast_S1x1x256x1_S1x32x256x4096_0_1_2_3 (broadcastInDim S1x1x256x1 ![2] bcast_S256_S1x1x256x1_2 rowK)) (Host.divf (pe) (broadcastInDim S1x32x256x4096 ![0, 1, 2, 3] bcast_S1x32x256x1_S1x32x256x4096_0_1_2_3 (select (broadcastInDim S1x32x256x1 ![0, 1, 2, 3] bcast_S1x1x256x1_S1x32x256x1_0_1_2_3 (broadcastInDim S1x1x256x1 ![2] bcast_S256_S1x1x256x1_2 rowK)) (broadcastInDim S1x32x256x1 ![0, 1, 2] bcast_S1x32x256_S1x32x256x1_0_1_2 (Host.reduceAdd (pe) (constant S_ .f32 0x00000000#32) reducesTo_S1x32x256x4096_S1x32x256_d3 h_S_)) (broadcastInDim S1x32x256x1 ![] bcast_S_S1x32x256x1 (id (constant S_ .f32 0x3F800000#32)))))) (broadcastInDim S1x32x256x4096 ![] bcast_S_S1x32x256x4096 (id (constant S_ .f32 0x00000000#32))))
/-- The weighted values of all heads, head by head. -/
def cx (v : FVec F S1x4096x32x128 .f32) (w : FVec F S1x32x256x4096 .f32) : FVec F S1x256x4096 .f32 :=
  (shapeCast _ (transpose S1x256x32x128 [0, 3, 1, 2] (Host.dotGeneral dot_S1x4096x32x128_S1x32x256x4096_S1x32x128x256_1_3_3_2_02_01 none v w) transposes_S1x32x128x256_S1x256x32x128_0_3_1_2) shapeCasts_S1x256x32x128_S1x256x4096)
/-- The reference's result, from its arguments. -/
def refOf (x : FVec F S1x256x1024 .f32) (wq : FVec F S1024x4096 .f32) (k v : FVec F S1x4096x32x128 .f32) (wo : FVec F S4096x1024 .f32) : FVec F S1x256x1024 .f32 :=
  Host.dotGeneral dot_S1x256x4096_S4096x1024_S1x256x1024_2_0_01_1_n_n none (cx v (wt (pe (sm (sc x wq k))))) wo

open Idealize.ShloMosaic.TcCoe in
theorem res_eq (m : (ℓ : Loc nD τ sig) → Buf (Elt F) ℓ) (c : Dev nD) :
    Value.res_main_v44 m c = refOf (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl

/-- Column `e` of head `h`, among 4096. -/
def col (h : Fin 32) (e : Fin 128) : Fin 4096 := ⟨h.val * 128 + e.val, by omega⟩

/-- The score of key `t` for query row `i` of head `h`. -/
def scAt (x : S1x256x1024.Idx → EReal) (wq : S1024x4096.Idx → EReal) (k : S1x4096x32x128.Idx → EReal) (h : Fin 32) (i : Fin 256) (t : Fin 4096) : EReal :=
  (∑ e : Fin 128, (∑ f : Fin 1024, x (ix3 0 i f) * wq (ix2 f (col h e))) * k (ix4 0 t h e)) * scl

theorem sc_apply (x : FVec Ideal S1x256x1024 .f32) (wq : FVec Ideal S1024x4096 .f32) (k : FVec Ideal S1x4096x32x128 .f32) (h : Fin 32) (i : Fin 256) (t : Fin 4096) :
    sc x wq k (ix4 0 h i t) = scAt x wq k h i t := by
  unfold sc scAt scl
  simp only [pointwise]
  simp only [zero_add]
  rfl

theorem sm_apply (s : FVec Ideal S1x32x256x4096 .f32) (h : Fin 32) (i : Fin 256) (t : Fin 4096) :
    sm s (ix4 0 h i t) = if Kept (i.val / 64) (t.val / 64) then s (ix4 0 h i t) else ⊥ := by
  unfold sm
  simp only [pointwise, id, ninf]
  change Scalar.select (maskR (ix2 i t)) (s (ix4 0 h i t)) ⊥ = _
  rw [maskR_apply]
  unfold Scalar.select
  split_ifs <;> first | rfl | (exfalso; simp_all)

theorem pe_apply (s : FVec Ideal S1x32x256x4096 .f32) (h : Fin 32) (i : Fin 256) (t : Fin 4096) :
    pe s (ix4 0 h i t) = Ideal.exp (s (ix4 0 h i t) - Finset.fold max ⊥ (fun u : Fin 4096 => s (ix4 0 h i u)) Finset.univ) := by
  unfold pe
  simp only [pointwise, ninf]
  rfl

theorem wt_apply (p : FVec Ideal S1x32x256x4096 .f32) (h : Fin 32) (i : Fin 256) (t : Fin 4096) :
    wt p (ix4 0 h i t) = Ideal.div (p (ix4 0 h i t)) (∑ u : Fin 4096, p (ix4 0 h i u)) := by
  unfold wt
  simp only [pointwise, zero_add]
  change Scalar.select (rowK (ix1 i)) (Ideal.div (p (ix4 0 h i t)) (Scalar.select (rowK (ix1 i)) (∑ u : Fin 4096, p (ix4 0 h i u)) _)) _ = _
  rw [rowK_apply]
  unfold Scalar.select
  exact (if_pos rfl).trans (congrArg (Ideal.div _) (if_pos rfl))

theorem cx_apply (v : FVec Ideal S1x4096x32x128 .f32) (w : FVec Ideal S1x32x256x4096 .f32) (i : Fin 256) (h : Fin 32) (e : Fin 128) :
    cx v w (ix3 0 i (col h e)) = ∑ t : Fin 4096, w (ix4 0 h i t) * v (ix4 0 t h e) := by
  unfold cx
  simp only [pointwise]
  rw [zero_add]
  refine Finset.sum_congr rfl fun t _ => ?_
  rw [mul_comm]
  have h1 : (⟨(col h e).val / 128, by have := (col h e).isLt; omega⟩ : Fin 32) = h := Fin.ext (by show (h.val * 128 + e.val) / 128 = h.val; omega)
  have h2 : (⟨(col h e).val % 128, by omega⟩ : Fin 128) = e := Fin.ext (by show (h.val * 128 + e.val) % 128 = e.val; omega)
  rw [h1, h2]

theorem ref_apply (x : FVec Ideal S1x256x1024 .f32) (wq : FVec Ideal S1024x4096 .f32) (k v : FVec Ideal S1x4096x32x128 .f32) (wo : FVec Ideal S4096x1024 .f32) (i : Fin 256) (j : Fin 1024) :
    refOf x wq k v wo (ix3 0 i j) = ∑ f : Fin 4096, (cx v (wt (pe (sm (sc x wq k))))) (ix3 0 i f) * wo (ix2 f j) := by
  unfold refOf
  generalize cx v (wt (pe (sm (sc x wq k)))) = y
  simp only [pointwise, zero_add]

/-- The weighted values of query row `i` of head `h` at place `e`. -/
def ctxR (x : S1x256x1024.Idx → EReal) (wq : S1024x4096.Idx → EReal) (k v : S1x4096x32x128.Idx → EReal) (h : Fin 32) (i : Fin 256) (e : Fin 128) : EReal :=
  attS (fun t : Fin 4096 => if Kept (i.val / 64) (t.val / 64) then scAt x wq k h i t else ⊥) (fun t => v (ix4 0 t h e))

theorem cx_eq (x : FVec Ideal S1x256x1024 .f32) (wq : FVec Ideal S1024x4096 .f32) (k v : FVec Ideal S1x4096x32x128 .f32) (i : Fin 256) (h : Fin 32) (e : Fin 128) :
    cx v (wt (pe (sm (sc x wq k)))) (ix3 0 i (col h e)) = ctxR x wq k v h i e := by
  rw [cx_apply]
  unfold ctxR attS
  simp only [wt_apply, pe_apply, sm_apply, sc_apply]

/-- The head of a column, and its place in the head. -/
def hdR (f : Fin 4096) : Fin 32 := ⟨f.val / 128, by omega⟩
def inR (f : Fin 4096) : Fin 128 := ⟨f.val % 128, by omega⟩
theorem col_hdR (f : Fin 4096) : col (hdR f) (inR f) = f := Fin.ext (by show f.val / 128 * 128 + f.val % 128 = f.val; omega)

/-- The reference's result at an index. -/
theorem ref_val (x : FVec Ideal S1x256x1024 .f32) (wq : FVec Ideal S1024x4096 .f32) (k v : FVec Ideal S1x4096x32x128 .f32) (wo : FVec Ideal S4096x1024 .f32) (i : Fin 256) (j : Fin 1024) :
    refOf x wq k v wo (ix3 0 i j) = ∑ f : Fin 4096, ctxR x wq k v (hdR f) i (inR f) * wo (ix2 f j) := by
  rw [ref_apply]
  refine Finset.sum_congr rfl fun f _ => ?_
  rw [← cx_eq, col_hdR]

end Cert.ReferenceIdeal.P
-- ==== Proof.Sel.lean ====
/-
  Which keys a group of query rows reads: a list of whole blocks of 64 keys, each block once, and exactly the blocks
  the mask keeps for the rows of the group.
-/
module

public import proofs.«01_k».proof.Proof.Vals
public import proofs.«01_k».proof.Proof.RMask

@[expose] public section

set_option maxRecDepth 16384

noncomputable section

namespace Cert.KernelIdeal.P

open Cert.ReferenceIdeal.P (Kept)

/-- A list of rows taken by blocks of 64 from distinct blocks has no row twice. -/
theorem sel_inj {N : ℕ} (σ : Fin N → Fin 4096) (o n : ℕ) (hN : N = 64 * n) (hσ : ∀ j, (σ j).val = 64 * srcBlk (o + j.val / 64) + j.val % 64)
    (inj : ∀ b < n, ∀ b' < n, srcBlk (o + b) = srcBlk (o + b') → b = b') : Function.Injective σ := by
  intro j j' h
  have h0 := congrArg Fin.val h
  rw [hσ, hσ] at h0
  have := j.isLt
  have := j'.isLt
  have h1 := inj (j.val / 64) (by omega) (j'.val / 64) (by omega) (by omega)
  apply Fin.ext
  omega

/-- It has the rows of the blocks it is taken from, and no others. -/
theorem sel_iff {N : ℕ} (σ : Fin N → Fin 4096) (o n : ℕ) (hN : N = 64 * n) (hσ : ∀ j, (σ j).val = 64 * srcBlk (o + j.val / 64) + j.val % 64)
    (K : ℕ → Prop) (hK : ∀ kb < 64, (K kb ↔ ∃ b < n, srcBlk (o + b) = kb)) (t : Fin 4096) : K (t.val / 64) ↔ ∃ j, σ j = t := by
  have ht := t.isLt
  rw [hK (t.val / 64) (by omega)]
  constructor
  · rintro ⟨b, hb, e⟩
    refine ⟨⟨64 * b + t.val % 64, by omega⟩, Fin.ext ?_⟩
    rw [hσ]
    show 64 * srcBlk (o + (64 * b + t.val % 64) / 64) + (64 * b + t.val % 64) % 64 = t.val
    rw [show (64 * b + t.val % 64) / 64 = b by omega, e]
    omega
  · rintro ⟨j, e⟩
    have hj := j.isLt
    refine ⟨j.val / 64, by omega, ?_⟩
    have h0 := congrArg Fin.val e
    rw [hσ] at h0
    omega

/-- The keys of group 0, of group 1, of group 2. -/
def σ0 (j : Fin 1408) : Fin 4096 := srcRow ⟨j.val, by omega⟩
def σ1 (j : Fin 1472) : Fin 4096 := srcRow ⟨1408 + j.val, by omega⟩
def σ2 (j : Fin 1472) : Fin 4096 := srcRow ⟨2880 + j.val, by omega⟩

theorem σ0_val (j : Fin 1408) : (σ0 j).val = 64 * srcBlk (0 + j.val / 64) + j.val % 64 := by
  show 64 * srcBlk (j.val / 64) + j.val % 64 = _
  rw [Nat.zero_add]
theorem σ1_val (j : Fin 1472) : (σ1 j).val = 64 * srcBlk (22 + j.val / 64) + j.val % 64 := by
  show 64 * srcBlk ((1408 + j.val) / 64) + (1408 + j.val) % 64 = _
  rw [show (1408 + j.val) / 64 = 22 + j.val / 64 by omega, show (1408 + j.val) % 64 = j.val % 64 by omega]
theorem σ2_val (j : Fin 1472) : (σ2 j).val = 64 * srcBlk (45 + j.val / 64) + j.val % 64 := by
  show 64 * srcBlk ((2880 + j.val) / 64) + (2880 + j.val) % 64 = _
  rw [show (2880 + j.val) / 64 = 45 + j.val / 64 by omega, show (2880 + j.val) % 64 = j.val % 64 by omega]

theorem σ0_inj : Function.Injective σ0 := sel_inj σ0 0 22 rfl σ0_val (by decide +kernel)
theorem σ1_inj : Function.Injective σ1 := sel_inj σ1 22 23 rfl σ1_val (by decide +kernel)
theorem σ2_inj : Function.Injective σ2 := sel_inj σ2 45 23 rfl σ2_val (by decide +kernel)

/-- The mask keeps a key for a row of blocks 0 and 3, of block 1, of block 2, exactly if the group has it. -/
theorem σ0_iff (a : ℕ) (ha : a = 0 ∨ a = 3) (t : Fin 4096) : Kept a (t.val / 64) ↔ ∃ j, σ0 j = t := by
  rcases ha with h | h <;> subst h
  · exact sel_iff σ0 0 22 rfl σ0_val (Kept 0) (by decide +kernel) t
  · exact sel_iff σ0 0 22 rfl σ0_val (Kept 3) (by decide +kernel) t
theorem σ1_iff (t : Fin 4096) : Kept 1 (t.val / 64) ↔ ∃ j, σ1 j = t :=
  sel_iff σ1 22 23 rfl σ1_val (Kept 1) (by decide +kernel) t
theorem σ2_iff (t : Fin 4096) : Kept 2 (t.val / 64) ↔ ∃ j, σ2 j = t :=
  sel_iff σ2 45 23 rfl σ2_val (Kept 2) (by decide +kernel) t

end Cert.KernelIdeal.P
-- ==== Proof.Real.lean ====
/-
  What the precondition says: every element of the input, of the query weights and of the keys is a real number. Then
  every score is one.
-/
module

public import proofs.«01_k».proof.Defs
public import proofs.«01_k».proof.Proof.RVal
public import Idealize.ShloMosaic.Lib.ReduceAll

@[expose] public section

set_option maxRecDepth 16384

noncomputable section

namespace Cert.Real

open Idealize.ShloMosaic
open Idealize.ShloMosaic.TcCoe
open scoped BigOperators

/-- An extended real that is a real number. -/
def IsReal (x : EReal) : Prop := ∃ r : ℝ, x = (r : EReal)

theorem IsReal.mul {x y : EReal} (hx : IsReal x) (hy : IsReal y) : IsReal (x * y) := by
  obtain ⟨a, rfl⟩ := hx
  obtain ⟨b, rfl⟩ := hy
  exact ⟨a * b, (EReal.coe_mul a b).symm⟩
theorem IsReal.add {x y : EReal} (hx : IsReal x) (hy : IsReal y) : IsReal (x + y) := by
  obtain ⟨a, rfl⟩ := hx
  obtain ⟨b, rfl⟩ := hy
  exact ⟨a + b, (EReal.coe_add a b).symm⟩
theorem IsReal.sum {ι : Type} (s : Finset ι) (f : ι → EReal) (h : ∀ i, IsReal (f i)) : IsReal (∑ i ∈ s, f i) := by
  classical
  induction s using Finset.induction_on with
  | empty => exact ⟨0, by simp⟩
  | insert a s ha ih => rw [Finset.sum_insert ha]; exact (h a).add ih

theorem isReal_scl : IsReal Cert.KernelIdeal.P.scl := by
  unfold Cert.KernelIdeal.P.scl Ideal.ofBits Ideal.ieee
  simp only
  rw [if_neg (by decide), if_neg (by decide)]
  exact ⟨_, rfl⟩

/-- A number whose absolute value is below infinity is real. -/
theorem isReal_of_abs {x : EReal} (h : max x (-x) < ⊤) : IsReal x := by
  induction x with
  | bot => simp at h
  | top => simp at h
  | coe r => exact ⟨r, rfl⟩

theorem pinf : Ideal.ofBits .f32 0x7F800000#32 = ⊤ := by
  simp [Ideal.ofBits, Ideal.ieee]

theorem isReal_of_cmp {x : EReal} (h : Ideal.cmp .olt (max x (-x)) (Ideal.ofBits .f32 0x7F800000#32) = 1#1) : IsReal x := by
  rw [pinf] at h
  exact isReal_of_abs ((Ideal.cmp_olt_eq_one _ _).1 h)

section
open Cert.Pre_finite_scores_KernelIdeal

variable [Cert.Pre_finite_scores_KernelIdeal.Facts]

/-- The precondition, element by element. -/
theorem real_of_pre (x : FVec Ideal S1x256x1024 .f32) (wq : FVec Ideal S1024x4096 .f32) (k v : FVec Ideal S1x4096x8x128 .f32) (wo : FVec Ideal S4096x1024 .f32)
    (h : fn x wq k v wo = fun _ => 1#1) : (∀ i, IsReal (x i)) ∧ (∀ i, IsReal (wq i)) ∧ ∀ i, IsReal (k i) := by
  have h0 := congrFun h (fun a => a.elim0)
  have hsub : Subsingleton S_.Idx := ⟨fun a b => funext fun i => i.elim0⟩
  obtain ⟨h1, h2⟩ := IntOp.andi_eq_one.1 h0
  obtain ⟨h3, h4⟩ := IntOp.andi_eq_one.1 h1
  refine ⟨fun i => ?_, fun i => ?_, fun i => ?_⟩
  · exact isReal_of_cmp (Host.reduce_andi_all _ _ _ _ _ h3 i)
  · exact isReal_of_cmp (Host.reduce_andi_all _ _ _ _ _ h4 i)
  · exact isReal_of_cmp (Host.reduce_andi_all _ _ _ _ _ h2 i)
end

open Cert.ReferenceIdeal Cert.ReferenceIdeal.P in
/-- Every score is real. -/
theorem isReal_scAt (x : S1x256x1024.Idx → EReal) (wq : S1024x4096.Idx → EReal) (k : S1x4096x32x128.Idx → EReal)
    (hx : ∀ i, IsReal (x i)) (hw : ∀ i, IsReal (wq i)) (hk : ∀ i, IsReal (k i)) (h : Fin 32) (i : Fin 256) (t : Fin 4096) :
    IsReal (scAt x wq k h i t) := by
  unfold scAt
  refine IsReal.mul (IsReal.sum _ _ fun e => IsReal.mul (IsReal.sum _ _ fun f => IsReal.mul (hx _) (hw _)) (hk _)) isReal_scl

end Cert.Real
-- ==== Proof.Alg.lean ====
/-
  The kernel's result is the reference's: each device's partial product is the part of the reference's last product
  over the heads of the device, and the kernel adds these parts.
-/
module

public import proofs.«01_k».proof.Proof.KVal
public import proofs.«01_k».proof.Proof.RVal
public import proofs.«01_k».proof.Proof.Sel
public import proofs.«01_k».proof.Proof.Real
public import Idealize.ShloMosaic.Lib.Layout

@[expose] public section

set_option maxRecDepth 16384

noncomputable section

namespace Cert.KernelIdeal.P

open Cert.KernelIdeal Cert.KernelIdeal.Gen
open Idealize.ShloMosaic
open Idealize.ShloMosaic.TcCoe
open Cert.ReferenceIdeal.P (Kept scAt ctxR col hdR inR refOf ref_val)
open Cert.Real
open scoped BigOperators

/-- The place of head `h` of device `c` among all heads. -/
def gh (c : Dev nD) (h : Fin 8) : Fin 32 := ⟨8 * c.val + h.val, by have := c.isLt; simp only [nD] at this; omega⟩

theorem dcol_hcol (c : Dev nD) (h : Fin 8) (e : Fin 128) : dcol c (hcol h e) = col (gh c h) e :=
  Fin.ext (by show 1024 * c.val + (128 * h.val + e.val) = (8 * c.val + h.val) * 128 + e.val; omega)
theorem hdR_dcol (c : Dev nD) (f : Fin 1024) : hdR (dcol c f) = gh c (hd f) :=
  Fin.ext (by show (1024 * c.val + f.val) / 128 = 8 * c.val + f.val / 128; omega)
theorem inR_dcol (c : Dev nD) (f : Fin 1024) : inR (dcol c f) = inHd f :=
  Fin.ext (by show (1024 * c.val + f.val) % 128 = f.val % 128; omega)

/-- A group's attention over its own keys is the reference's over all of them. -/
theorem ctx_group {n : ℕ} (hn : 0 < n) (σ : Fin n → Fin 4096) (hσ : Function.Injective σ)
    (x : Cert.ReferenceIdeal.S1x256x1024.Idx → EReal) (wq : Cert.ReferenceIdeal.S1024x4096.Idx → EReal) (K V : Cert.ReferenceIdeal.S1x4096x32x128.Idx → EReal)
    (q : S256x1024.Idx → EReal) (k v : (⟨2, ![n, 1024]⟩ : Shape).Idx → EReal) (h : Fin 8) (g : Fin 32) (i : Fin 256) (d : Fin 128)
    (hM : ∀ t : Fin 4096, Kept (i.val / 64) (t.val / 64) ↔ ∃ j, σ j = t)
    (hq : ∀ e : Fin 128, q (ix2 i (hcol h e)) = ∑ f : Fin 1024, x (ix3 0 i f) * wq (Idealize.ShloMosaic.ix2 f (col g e)))
    (hk : ∀ j e, k (ix2 j (hcol h e)) = K (ix4 0 (σ j) g e)) (hv : ∀ j e, v (ix2 j (hcol h e)) = V (ix4 0 (σ j) g e))
    (hs : ∀ t, IsReal (scAt x wq K g i t)) :
    ctxAt q k v i h d = ctxR x wq K V g i d := by
  have h1 := attS_select hn σ hσ (fun t => Kept (i.val / 64) (t.val / 64)) hM (fun t => scAt x wq K g i t) (fun t => V (ix4 0 t g d)) hs
  unfold ctxR
  rw [← h1]
  unfold ctxAt scAt
  simp only [hq, hk, hv]

variable (m : (ℓ : Loc nD τ sig) → Buf (Elt Ideal) ℓ)

/-- The queries of device `c`. -/
theorem qdev_apply (x : S1x256x1024.Idx → EReal) (wq : S1024x4096.Idx → EReal) (c : Dev nD) (h0 : m ((c : Thread nD τ).loc main_arg0) = x) (h1 : m ((c : Thread nD τ).loc main_arg1) = wq)
    (i : Fin 256) (h : Fin 8) (e : Fin 128) :
    k0_pay2 (xstg m c) (wqV m c) (ix2 i (hcol h e)) = ∑ f : Fin 1024, x (ix3 0 i f) * wq (Idealize.ShloMosaic.ix2 f (col (gh c h) e)) := by
  rw [q_apply]
  refine Finset.sum_congr rfl fun f _ => ?_
  rw [xstg_apply, wqV_apply, dcol_hcol, ix2_eq, h0, h1]

/-- The rows of the gathered keys and values, by group. -/
theorem grp0_apply (f : S4096x1024.Idx → EReal) (j : Fin 1408) (a : Fin 1024) : grp0 (gather f) (ix2 j a) = f (ix2 (σ0 j) a) := rfl
theorem grp1_apply (f : S4096x1024.Idx → EReal) (j : Fin 1472) (a : Fin 1024) : grp1 (gather f) (ix2 j a) = f (ix2 (σ1 j) a) := rfl
theorem grp2_apply (f : S4096x1024.Idx → EReal) (j : Fin 1472) (a : Fin 1024) : grp2 (gather f) (ix2 j a) = f (ix2 (σ2 j) a) := rfl

/-- A device's block of an array cut along its heads. -/
theorem block_head (K : Cert.ReferenceIdeal.S1x4096x32x128.Idx → EReal) (c : Dev nD) (t : Fin 4096) (h : Fin 8) (e : Fin 128) :
    Layout.block ⟨4, ![1, 4096, 8, 128]⟩ ⟨4, ![1, 4096, 32, 128]⟩ 2 4 c K (by decide) (ix4 0 t h e) = K (ix4 0 t (gh c h) e) := by
  rw [Layout.block_apply]
  congr 1
  funext a
  apply Fin.ext
  fin_cases a
  · rfl
  · rfl
  · show c.val * 8 + h.val = 8 * c.val + h.val
    omega
  · rfl

section
variable (x : Cert.ReferenceIdeal.S1x256x1024.Idx → EReal) (wq : Cert.ReferenceIdeal.S1024x4096.Idx → EReal)
  (K V : Cert.ReferenceIdeal.S1x4096x32x128.Idx → EReal) (wo : Cert.ReferenceIdeal.S4096x1024.Idx → EReal)
  (h0 : ∀ c : Dev nD, m ((c : Thread nD τ).loc main_arg0) = x) (h1 : ∀ c : Dev nD, m ((c : Thread nD τ).loc main_arg1) = wq)
  (h2 : ∀ c : Dev nD, ∀ t h e, (m ((c : Thread nD τ).loc main_arg2) : S1x4096x8x128.Idx → EReal) (ix4 0 t h e) = K (ix4 0 t (gh c h) e))
  (h3 : ∀ c : Dev nD, ∀ t h e, (m ((c : Thread nD τ).loc main_arg3) : S1x4096x8x128.Idx → EReal) (ix4 0 t h e) = V (ix4 0 t (gh c h) e))
  (h4 : ∀ c : Dev nD, m ((c : Thread nD τ).loc main_arg4) = wo)
  (hs : ∀ g i t, IsReal (scAt x wq K g i t))

include h0 h1 h2 h3 hs in
/-- The weighted values of device `c` are the reference's at the device's heads. -/
theorem ctx_dev (c : Dev nD) (i : Fin 256) (f : Fin 1024) :
    ctx4 (k0_pay2 (xstg m c) (wqV m c)) (grp0 (kAll m c)) (grp0 (vAll m c)) (grp1 (kAll m c)) (grp1 (vAll m c)) (grp2 (kAll m c)) (grp2 (vAll m c)) i f
      = ctxR x wq K V (hdR (dcol c f)) i (inR (dcol c f)) := by
  rw [hdR_dcol, inR_dcol]
  have hi := i.isLt
  have hq : ∀ e : Fin 128, k0_pay2 (xstg m c) (wqV m c) (ix2 i (hcol (hd f) e)) = ∑ f' : Fin 1024, x (ix3 0 i f') * wq (Idealize.ShloMosaic.ix2 f' (col (gh c (hd f)) e)) := fun e => by
    exact qdev_apply m x wq c (h0 c) (h1 c) i (hd f) e
  have hk : ∀ t e, kM.view.read (Elt Ideal) (m ((c : Thread nD τ).loc main_arg2)) (ix2 t (hcol (hd f) e)) = K (ix4 0 t (gh c (hd f)) e) := fun t e =>
    (kM_read _ t (hd f) e).trans (h2 c t (hd f) e)
  have hv : ∀ t e, vM.view.read (Elt Ideal) (m ((c : Thread nD τ).loc main_arg3)) (ix2 t (hcol (hd f) e)) = V (ix4 0 t (gh c (hd f)) e) := fun t e =>
    (vM_read _ t (hd f) e).trans (h3 c t (hd f) e)
  unfold ctx4
  split_ifs with g1 g2
  · refine ctx_group (by decide) σ1 σ1_inj x wq K V _ _ _ (hd f) (gh c (hd f)) i (inHd f) ?_ hq (fun j e => ?_) (fun j e => ?_) (hs _ i)
    · rw [show i.val / 64 = 1 by omega]; exact σ1_iff
    · exact (grp1_apply _ j _).trans (hk (σ1 j) e)
    · exact (grp1_apply _ j _).trans (hv (σ1 j) e)
  · refine ctx_group (by decide) σ2 σ2_inj x wq K V _ _ _ (hd f) (gh c (hd f)) i (inHd f) ?_ hq (fun j e => ?_) (fun j e => ?_) (hs _ i)
    · rw [show i.val / 64 = 2 by omega]; exact σ2_iff
    · exact (grp2_apply _ j _).trans (hk (σ2 j) e)
    · exact (grp2_apply _ j _).trans (hv (σ2 j) e)
  · refine ctx_group (by decide) σ0 σ0_inj x wq K V _ _ _ (hd f) (gh c (hd f)) i (inHd f) ?_ hq (fun j e => ?_) (fun j e => ?_) (hs _ i)
    · exact σ0_iff (i.val / 64) (by omega)
    · exact (grp0_apply _ j _).trans (hk (σ0 j) e)
    · exact (grp0_apply _ j _).trans (hv (σ0 j) e)

include h0 h1 h2 h3 h4 hs in
/-- The partial product of device `c`: the part of the reference's last product over the device's columns. -/
theorem rsA_apply (c : Dev nD) (i : Fin 256) (j : Fin 1024) :
    rsA m c (ix2 i j) = ∑ f : Fin 1024, ctxR x wq K V (hdR (dcol c f)) i (inR (dcol c f)) * wo (Idealize.ShloMosaic.ix2 (dcol c f) j) := by
  unfold rsA rsSrc
  rw [accOf_apply]
  refine Finset.sum_congr rfl fun f _ => ?_
  rw [ctx_dev m x wq K V h0 h1 h2 h3 hs c i f, woV_apply, h4, ix2_eq]

include h0 h1 h2 h3 h4 hs in
/-- The kernel's result, on every device, is the reference's. -/
theorem out_eq_ref (c : Dev nD) : (outAt m c : Cert.ReferenceIdeal.S1x256x1024.Idx → EReal) = refOf (F := Ideal) x wq K V wo := by
  funext y
  obtain ⟨i, j, rfl⟩ : ∃ (i : Fin 256) (j : Fin 1024), y = ix3 0 i j :=
    ⟨y 1, y 2, by funext a; fin_cases a <;> first | rfl | exact Subsingleton.elim (α := Fin 1) _ _⟩
  suffices key : ∑ d : Dev nD, rsA m d (ix2 i j) = ∑ f : Fin 4096, ctxR x wq K V (hdR f) i (inR f) * wo (Idealize.ShloMosaic.ix2 f j) from
    (out_apply m c i j).trans (key.trans (ref_val x wq K V wo i j).symm)
  rw [Fin.sum_univ_tiles 4 1024 rfl]
  refine Finset.sum_congr rfl fun d _ => ?_
  rw [rsA_apply m x wq K V wo h0 h1 h2 h3 h4 hs]
  refine Finset.sum_congr rfl fun f _ => ?_
  have e : dcol d f = (⟨d.val * 1024 + f.val, by have := d.isLt; simp only [nD] at this; omega⟩ : Fin 4096) :=
    Fin.ext (by show 1024 * d.val + f.val = d.val * 1024 + f.val; omega)
  rw [e]
end

end Cert.KernelIdeal.P
-- ==== Proof.Equal.lean ====
/-
  The two runs end with the same result.
-/
module

public import proofs.«01_k».proof.Defs
public import proofs.«01_k».proof.Proof.Frames
public import proofs.«01_k».proof.Proof.Alg

@[expose] public section

set_option maxRecDepth 16384

noncomputable section

namespace Cert.Proof

open Idealize.ShloMosaic
open Idealize.ShloMosaic.TcCoe
open Cert.KernelIdeal.P (gh block_head out_eq_ref)
open Cert.Real

/-- The side conditions of the precondition's operations, over one device's arrays and over the whole arrays. -/
theorem facts_pre : Cert.Pre_finite_scores_KernelIdeal.Facts where
  bcast_S_S1x256x1024 := by decide
  reducesTo_S1x256x1024_S_d0_1_2 := by decide
  h_S_ := by decide
  bcast_S_S1024x4096 := by decide
  reducesTo_S1024x4096_S_d0_1 := by decide
  bcast_S_S1x4096x8x128 := by decide
  reducesTo_S1x4096x8x128_S_d0_1_2_3 := by decide
theorem facts_pre_ref : Cert.Pre_finite_scores_ReferenceIdeal.Facts where
  bcast_S_S1x256x1024 := by decide
  reducesTo_S1x256x1024_S_d0_1_2 := by decide
  h_S_ := by decide
  bcast_S_S1024x4096 := by decide
  reducesTo_S1024x4096_S_d0_1 := by decide
  bcast_S_S1x4096x32x128 := by decide
  reducesTo_S1x4096x32x128_S_d0_1_2_3 := by decide

instance : Cert.Pre_finite_scores_KernelIdeal.Facts := facts_pre

/-- An array whose four blocks of heads are real is real. -/
theorem real_of_blocks (K : Cert.ReferenceIdeal.S1x4096x32x128.Idx → EReal)
    (h : ∀ (c : Dev Cert.KernelIdeal.nD) t (h : Fin 8) e, IsReal (K (ix4 0 t (gh c h) e))) (y : Cert.ReferenceIdeal.S1x4096x32x128.Idx) : IsReal (K y) := by
  obtain ⟨t, g, e, rfl⟩ : ∃ (t : Fin 4096) (g : Fin 32) (e : Fin 128), y = ix4 0 t g e :=
    ⟨y 1, y 2, y 3, by funext a; fin_cases a <;> first | rfl | exact Subsingleton.elim (α := Fin 1) _ _⟩
  have hg := g.isLt
  have h1 := h (⟨g.val / 8, by simp only [Cert.KernelIdeal.nD]; omega⟩ : Dev Cert.KernelIdeal.nD) t (⟨g.val % 8, by omega⟩ : Fin 8) e
  have h2 : gh (⟨g.val / 8, by simp only [Cert.KernelIdeal.nD]; omega⟩ : Dev Cert.KernelIdeal.nD) (⟨g.val % 8, by omega⟩ : Fin 8) = g :=
    Fin.ext (by show 8 * (g.val / 8) + g.val % 8 = g.val; omega)
  rwa [h2] at h1

/-- From finite inputs, query weights and keys the idealized kernel ends, on every device, with the reference's result. -/
theorem algebraic : Cert.algebraic_KernelIdeal_ReferenceIdeal_pre_finite_scores_KernelIdeal := by
  intro m g m' g' hpre hagree
  have hr := fun c => real_of_pre _ _ _ _ _ (hpre c)
  have h0 := fun c => (hagree c).1
  have h1 := fun c => (hagree c).2.1
  have h2 := fun c t h e => (congrFun (hagree c).2.2.1 (ix4 0 t h e)).trans (block_head _ c t h e)
  have h3 := fun c t h e => (congrFun (hagree c).2.2.2.1 (ix4 0 t h e)).trans (block_head _ c t h e)
  have h4 := fun c => (hagree c).2.2.2.2
  have hx : ∀ i, IsReal (m' (((0 : Dev Cert.ReferenceIdeal.nD).tc : Thread Cert.ReferenceIdeal.nD Cert.ReferenceIdeal.τ).loc Cert.ReferenceIdeal.main_arg0) i) := fun i => by
    rw [← h0 0]; exact (hr 0).1 i
  have hw : ∀ i, IsReal (m' (((0 : Dev Cert.ReferenceIdeal.nD).tc : Thread Cert.ReferenceIdeal.nD Cert.ReferenceIdeal.τ).loc Cert.ReferenceIdeal.main_arg1) i) := fun i => by
    rw [← h1 0]; exact (hr 0).2.1 i
  have hk : ∀ i, IsReal (m' (((0 : Dev Cert.ReferenceIdeal.nD).tc : Thread Cert.ReferenceIdeal.nD Cert.ReferenceIdeal.τ).loc Cert.ReferenceIdeal.main_arg2) i) :=
    real_of_blocks _ fun c t h e => by rw [← h2 c t h e]; exact (hr c).2.2 _
  refine ⟨Cert.ReferenceIdeal.Value.res_main_v44 m' 0, ?_, ?_⟩
  · refine (θ_run Cert.KernelIdeal.defs _ _).mono (fun r h c => ⟨(h.1 c).1.trans ?_, (h.1 c).2⟩) (Cert.KernelIdeal.P.run_main (F := Ideal) m g)
    exact (out_eq_ref m _ _ _ _ _ h0 h1 h2 h3 h4 (fun a i t => isReal_scAt _ _ _ hx hw hk a i t) c).trans (Cert.ReferenceIdeal.P.res_eq m' 0).symm
  · exact (θ_run Cert.ReferenceIdeal.defs _ _).mono (fun r h => h 0) (Cert.ReferenceIdeal.Value.run (F := Ideal) m' g')

end Cert.Proof
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Equal

@[expose] public section

noncomputable section

namespace Cert.Proof

open Idealize.ShloMosaic

/-- The claims: the kernel, its idealization and the reference run and leave their arguments; the idealization is the
    kernel's own text; from finite inputs, query weights and keys the idealized kernel's result is the reference's. -/
theorem claim : Cert.Claim :=
  ⟨Cert.Kernel.Gen.facts, Cert.KernelIdeal.Gen.facts, Cert.ReferenceIdeal.Gen.facts, facts_pre, facts_pre_ref,
    frame_kernel, frame_kernelIdeal, fun m g _ => frame_kernelIdeal m g trivial, frame_reference, fun m g _ => frame_reference m g trivial, trivial, algebraic⟩

end Cert.Proof
